-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_finite [hPre_inputs_finite : Cert.Pre_inputs_finite.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_finite [hPre_inputs_finite : Cert.Pre_inputs_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_inputs_finite [hKernelIdeal : Cert.KernelIdeal.Facts] [hPre_inputs_finite : Cert.Pre_inputs_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_inputs_finite [hReferenceIdeal : Cert.ReferenceIdeal.Facts] [hPre_inputs_finite : Cert.Pre_inputs_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_inputs_finite [hKernelIdeal : Cert.KernelIdeal.Facts] [hReferenceIdeal : Cert.ReferenceIdeal.Facts] [hPre_inputs_finite : Cert.Pre_inputs_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v5)) (v3 : (c : Dev Cert.KernelIdeal.nD) → Buf (Elt Ideal) ((c.tc : Thread Cert.KernelIdeal.nD Cert.KernelIdeal.τ).loc Cert.KernelIdeal.main_v6)) (v4 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_v6) = v3 c
          ∧ r.2.mem ((c.tc : Thread Cert.KernelIdeal.nD Cert.KernelIdeal.τ).loc Cert.KernelIdeal.main_v7) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_inputs_finite : Cert.Pre_inputs_finite.Facts),
    quiescent_Kernel (hKernel := hKernel)
    ∧ quiescent_KernelIdeal (hKernelIdeal := hKernelIdeal)
    ∧ quiescent_KernelIdeal_pre_inputs_finite (hKernelIdeal := hKernelIdeal) (hPre_inputs_finite := hPre_inputs_finite)
    ∧ quiescent_ReferenceIdeal (hReferenceIdeal := hReferenceIdeal)
    ∧ quiescent_ReferenceIdeal_pre_inputs_finite (hReferenceIdeal := hReferenceIdeal) (hPre_inputs_finite := hPre_inputs_finite)
    ∧ preserves_Kernel_KernelIdeal
    ∧ algebraic_KernelIdeal_ReferenceIdeal_pre_inputs_finite (hKernelIdeal := hKernelIdeal) (hReferenceIdeal := hReferenceIdeal) (hPre_inputs_finite := hPre_inputs_finite)
-- ==== Pre_inputs_finite.lean ====
abbrev S8x4096x2048 : Shape := ⟨3, ![8, 4096, 2048]⟩
abbrev S576x2048 : Shape := ⟨2, ![576, 2048]⟩
abbrev S5x16 : Shape := ⟨2, ![5, 16]⟩
abbrev S512 : Shape := ⟨1, ![512]⟩
abbrev S_ : Shape := ⟨0, ![]⟩

class Facts : Prop where
  bitsLt_bf16_f32 : FTy.bits .bf16 < FTy.bits .f32
  bcast_S_S8x4096x2048 : S_.BroadcastsInDim S8x4096x2048 (![] : Fin 0 → Fin S8x4096x2048.rank)
  reducesTo_S8x4096x2048_S_d0_1_2 : S8x4096x2048.ReducesTo [0, 1, 2] S_
  h_S_ : 0 < S_.numel
  bcast_S_S512 : S_.BroadcastsInDim S512 (![] : Fin 0 → Fin S512.rank)
  reducesTo_S512_S_d0 : S512.ReducesTo [0] S_

variable [Facts]

def fn {F : FTy → Type} [FloatOps F] (main_arg0 : FVec F S8x4096x2048 .bf16) (main_arg1 : FVec F S576x2048 .fp8e4m3) (main_arg2 : FVec F S5x16 .f32) (main_arg3 : FVec F S512 .f32) : IVec S_ 1 :=
  let main_v0 : FVec F S8x4096x2048 .f32 := (extf .f32 · bitsLt_bf16_f32) main_arg0
  let main_v1 : FVec F S8x4096x2048 .f32 := Host.absf main_v0
  let main_cst : FVec F S_ .f32 := constant S_ .f32 0x7F7F0000#32
  let main_v2 : FVec F S8x4096x2048 .f32 := broadcastInDim S8x4096x2048 ![] bcast_S_S8x4096x2048 main_cst
  let main_v3 : IVec S8x4096x2048 1 := cmpf .ole main_v1 main_v2
  let main_c : IVec S_ 1 := constantI S_ 1 1#1
  let main_v4 : IVec S_ 1 := (fun x v => Host.reduce IntOp.andi x v reducesTo_S8x4096x2048_S_d0_1_2 h_S_) main_v3 main_c
  let main_v5 : FVec F S512 .f32 := Host.absf main_arg3
  let main_cst_0 : FVec F S_ .f32 := constant S_ .f32 0x7F7FFFFF#32
  let main_v6 : FVec F S512 .f32 := broadcastInDim S512 ![] bcast_S_S512 main_cst_0
  let main_v7 : IVec S512 1 := cmpf .ole main_v5 main_v6
  let main_c_1 : IVec S_ 1 := constantI S_ 1 1#1
  let main_v8 : IVec S_ 1 := (fun x v => Host.reduce IntOp.andi x v reducesTo_S512_S_d0 h_S_) main_v7 main_c_1
  let main_v9 : IVec S_ 1 := andi main_v4 main_v8
  main_v9
-- ==== Kernel.lean ====
abbrev S8x4096x2048 : Shape := ⟨3, ![8, 4096, 2048]⟩
abbrev S576x2048 : Shape := ⟨2, ![576, 2048]⟩
abbrev S5x16 : Shape := ⟨2, ![5, 16]⟩
abbrev S512 : Shape := ⟨1, ![512]⟩
abbrev S32768x2048 : Shape := ⟨2, ![32768, 2048]⟩
abbrev S1x512 : Shape := ⟨2, ![1, 512]⟩
abbrev S32768x512 : Shape := ⟨2, ![32768, 512]⟩
abbrev S8x4x4096 : Shape := ⟨3, ![8, 4, 4096]⟩
abbrev S8x64x4096 : Shape := ⟨3, ![8, 64, 4096]⟩
abbrev S8x16x4096 : Shape := ⟨3, ![8, 16, 4096]⟩
abbrev S512x2048 : Shape := ⟨2, ![512, 2048]⟩
abbrev S512x512 : Shape := ⟨2, ![512, 512]⟩
abbrev S1x4x512 : Shape := ⟨3, ![1, 4, 512]⟩
abbrev S1x64x512 : Shape := ⟨3, ![1, 64, 512]⟩
abbrev S1x16x512 : Shape := ⟨3, ![1, 16, 512]⟩
abbrev S512x128 : Shape := ⟨2, ![512, 128]⟩
abbrev S2048x512 : Shape := ⟨2, ![2048, 512]⟩
abbrev S576x512 : Shape := ⟨2, ![576, 512]⟩
abbrev S1x1 : Shape := ⟨2, ![1, 1]⟩
abbrev S128x128 : Shape := ⟨2, ![128, 128]⟩
abbrev S64x128 : Shape := ⟨2, ![64, 128]⟩
abbrev S128x512 : Shape := ⟨2, ![128, 512]⟩
abbrev S16x128 : Shape := ⟨2, ![16, 128]⟩
abbrev S128 : Shape := ⟨1, ![128]⟩
abbrev S1x128 : Shape := ⟨2, ![1, 128]⟩
abbrev S1x1x128 : Shape := ⟨3, ![1, 1, 128]⟩
abbrev S8x128 : Shape := ⟨2, ![8, 128]⟩
abbrev S64x512 : Shape := ⟨2, ![64, 512]⟩
abbrev S8x4096x512 : Shape := ⟨3, ![8, 4096, 512]⟩
abbrev S8x4096x4 : Shape := ⟨3, ![8, 4096, 4]⟩
abbrev S8x4096x64 : Shape := ⟨3, ![8, 4096, 64]⟩
abbrev S8x4096x16 : Shape := ⟨3, ![8, 4096, 16]⟩

abbrev nBuf : Space → Nat
  | .hbm => 16
  | .vmem => 18
  | .smem => 1
  | _ => 0

abbrev bufTy : (tb : Table) → Fin (tcTables nBuf tb) → BufTy
  | .hbm, ⟨0, _⟩ => ⟨S8x4096x2048, .bf16⟩
  | .hbm, ⟨1, _⟩ => ⟨S576x2048, .fp8e4m3⟩
  | .hbm, ⟨2, _⟩ => ⟨S5x16, .f32⟩
  | .hbm, ⟨3, _⟩ => ⟨S512, .f32⟩
  | .hbm, ⟨4, _⟩ => ⟨S32768x2048, .bf16⟩
  | .hbm, ⟨5, _⟩ => ⟨S1x512, .f32⟩
  | .hbm, ⟨6, _⟩ => ⟨S32768x512, .fp8e4m3⟩
  | .hbm, ⟨7, _⟩ => ⟨S8x4x4096, .f32⟩
  | .hbm, ⟨8, _⟩ => ⟨S8x64x4096, .bf16⟩
  | .hbm, ⟨9, _⟩ => ⟨S32768x2048, .fp8e4m3⟩
  | .hbm, ⟨10, _⟩ => ⟨S8x16x4096, .f32⟩
  | .hbm, ⟨11, _⟩ => ⟨S8x4096x512, .fp8e4m3⟩
  | .hbm, ⟨12, _⟩ => ⟨S8x4096x4, .f32⟩
  | .hbm, ⟨13, _⟩ => ⟨S8x4096x64, .bf16⟩
  | .hbm, ⟨14, _⟩ => ⟨S8x4096x2048, .fp8e4m3⟩
  | .hbm, ⟨15, _⟩ => ⟨S8x4096x16, .f32⟩
  | .local _ .vmem, ⟨0, _⟩ => ⟨S512x2048, .bf16⟩
  | .local _ .vmem, ⟨1, _⟩ => ⟨S512x2048, .bf16⟩
  | .local _ .vmem, ⟨2, _⟩ => ⟨S576x2048, .fp8e4m3⟩
  | .local _ .vmem, ⟨3, _⟩ => ⟨S1x512, .f32⟩
  | .local _ .vmem, ⟨4, _⟩ => ⟨S512x512, .fp8e4m3⟩
  | .local _ .vmem, ⟨5, _⟩ => ⟨S512x512, .fp8e4m3⟩
  | .local _ .vmem, ⟨6, _⟩ => ⟨S1x4x512, .f32⟩
  | .local _ .vmem, ⟨7, _⟩ => ⟨S1x4x512, .f32⟩
  | .local _ .vmem, ⟨8, _⟩ => ⟨S1x64x512, .bf16⟩
  | .local _ .vmem, ⟨9, _⟩ => ⟨S1x64x512, .bf16⟩
  | .local _ .vmem, ⟨10, _⟩ => ⟨S512x2048, .fp8e4m3⟩
  | .local _ .vmem, ⟨11, _⟩ => ⟨S512x2048, .fp8e4m3⟩
  | .local _ .vmem, ⟨12, _⟩ => ⟨S1x16x512, .f32⟩
  | .local _ .vmem, ⟨13, _⟩ => ⟨S1x16x512, .f32⟩
  | .local _ .vmem, ⟨14, _⟩ => ⟨S576x2048, .bf16⟩
  | .local _ .vmem, ⟨15, _⟩ => ⟨S512x128, .f32⟩
  | .local _ .vmem, ⟨16, _⟩ => ⟨S2048x512, .bf16⟩
  | .local _ .vmem, ⟨17, _⟩ => ⟨S576x512, .f32⟩
  | .local _ .smem, ⟨0, _⟩ => ⟨S5x16, .f32⟩
  | _, _ => ⟨S8x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_v2_4 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_stg2_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_6 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S576x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S5x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x16x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S8x4096x2048 : Shape := ⟨3, ![8, 4096, 2048]⟩
abbrev S576x2048 : Shape := ⟨2, ![576, 2048]⟩
abbrev S5x16 : Shape := ⟨2, ![5, 16]⟩
abbrev S512 : Shape := ⟨1, ![512]⟩
abbrev S8x4096x512 : Shape := ⟨3, ![8, 4096, 512]⟩
abbrev S8x4096x4 : Shape := ⟨3, ![8, 4096, 4]⟩
abbrev S8x4096x64 : Shape := ⟨3, ![8, 4096, 64]⟩
abbrev S8x4096x16 : Shape := ⟨3, ![8, 4096, 16]⟩
abbrev S8x4096x16x128 : Shape := ⟨4, ![8, 4096, 16, 128]⟩
abbrev S8x4096x16x1 : Shape := ⟨4, ![8, 4096, 16, 1]⟩
abbrev S8x4096x16x252 : Shape := ⟨4, ![8, 4096, 16, 252]⟩
abbrev S5x1x16x1 : Shape := ⟨4, ![5, 1, 16, 1]⟩
abbrev S5x128x16x128 : Shape := ⟨4, ![5, 128, 16, 128]⟩
abbrev S640x2048 : Shape := ⟨2, ![640, 2048]⟩
abbrev S32768x2048 : Shape := ⟨2, ![32768, 2048]⟩
abbrev S32768x576 : Shape := ⟨2, ![32768, 576]⟩
abbrev S8x4096x576 : Shape := ⟨3, ![8, 4096, 576]⟩
abbrev S8x4096 : Shape := ⟨2, ![8, 4096]⟩
abbrev S8x4096x1 : Shape := ⟨3, ![8, 4096, 1]⟩
abbrev S1x1x512 : Shape := ⟨3, ![1, 1, 512]⟩
abbrev S8x4096x4x128 : Shape := ⟨4, ![8, 4096, 4, 128]⟩
abbrev S8x4096x4x1 : Shape := ⟨4, ![8, 4096, 4, 1]⟩
abbrev S8x4096x4x252 : Shape := ⟨4, ![8, 4096, 4, 252]⟩

abbrev nBuf : Space → Nat
  | .hbm => 9
  | .vmem => 9
  | .smem => 0
  | _ => 0

abbrev bufTy : (tb : Table) → Fin (tcTables nBuf tb) → BufTy
  | .hbm, ⟨0, _⟩ => ⟨S8x4096x2048, .bf16⟩
  | .hbm, ⟨1, _⟩ => ⟨S576x2048, .fp8e4m3⟩
  | .hbm, ⟨2, _⟩ => ⟨S5x16, .f32⟩
  | .hbm, ⟨3, _⟩ => ⟨S512, .f32⟩
  | .hbm, ⟨4, _⟩ => ⟨S8x4096x512, .fp8e4m3⟩
  | .hbm, ⟨5, _⟩ => ⟨S8x4096x4, .f32⟩
  | .hbm, ⟨6, _⟩ => ⟨S8x4096x64, .bf16⟩
  | .hbm, ⟨7, _⟩ => ⟨S8x4096x2048, .fp8e4m3⟩
  | .hbm, ⟨8, _⟩ => ⟨S8x4096x16, .f32⟩
  | .local _ .vmem, ⟨0, _⟩ => ⟨S8x4096x2048, .bf16⟩
  | .local _ .vmem, ⟨1, _⟩ => ⟨S576x2048, .fp8e4m3⟩
  | .local _ .vmem, ⟨2, _⟩ => ⟨S5x16, .f32⟩
  | .local _ .vmem, ⟨3, _⟩ => ⟨S512, .f32⟩
  | .local _ .vmem, ⟨4, _⟩ => ⟨S8x4096x512, .fp8e4m3⟩
  | .local _ .vmem, ⟨5, _⟩ => ⟨S8x4096x4, .f32⟩
  | .local _ .vmem, ⟨6, _⟩ => ⟨S8x4096x64, .bf16⟩
  | .local _ .vmem, ⟨7, _⟩ => ⟨S8x4096x2048, .fp8e4m3⟩
  | .local _ .vmem, ⟨8, _⟩ => ⟨S8x4096x16, .f32⟩
  | _, _ => ⟨S8x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S8x4096x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S576x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x4096x512 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x4096x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x4096x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x4096x2048 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x4096x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.Pre.lean ====
/- What the precondition says: the input's entries and the norm's factors are finite. -/
module

public import proofs.«01_k».proof.Defs
public import proofs.«01_k».proof.Proof.Gen.Pre_inputs_finite
public import Idealize.ShloMosaic.Lib.ReduceAll
public import Idealize.ShloMosaic.Lib.Pointwise

@[expose] public section

set_option maxRecDepth 16384

noncomputable section

namespace Cert.Pre

open Idealize.ShloMosaic Cert.Pre_inputs_finite Cert.Pre_inputs_finite.Gen

theorem one_of {b : Bool} (h : BitVec.ofBool b = 1#1) : b = true := by
  cases b
  · exact absurd h (by decide)
  · rfl

theorem le_of_cmp {x y : EReal} (h : Ideal.cmp .ole x y = 1#1) : x ≤ y := of_decide_eq_true (one_of h)

/-- Every entry of an array passes a test, where the conjunction of the tests is one. -/
theorem both {a b : IVec S_ 1} (j : S_.Idx) (h : andi a b j = 1#1) : a j = 1#1 ∧ b j = 1#1 := IntOp.andi_eq_one.1 h

instance : Subsingleton S_.Idx := ⟨fun a b => funext fun i => i.elim0⟩

theorem finite (x0 : FVec Ideal S8x4096x2048 .bf16) (x1 : FVec Ideal S576x2048 .fp8e4m3) (x2 : FVec Ideal S5x16 .f32)
    (x3 : FVec Ideal S512 .f32) (j : S_.Idx) (h : fn (F := Ideal) x0 x1 x2 x3 j = 1#1) :
    (∀ i, max (x0 i) (-x0 i) ≤ Ideal.ofBits .f32 0x7F7F0000#32) ∧ ∀ i, max (x3 i) (-x3 i) ≤ Ideal.ofBits .f32 0x7F7FFFFF#32 := by
  dsimp only [fn] at h
  obtain ⟨ha, hb⟩ := both j h
  exact ⟨fun i => le_of_cmp (Host.reduce_andi_all _ _ _ _ j ha i), fun i => le_of_cmp (Host.reduce_andi_all _ _ _ _ j hb i)⟩

end Cert.Pre

end
-- ==== Proof.Site.lean ====
/- What the kernel's body computes from the blocks it loads, one function for each of the repeated pieces of its text: the
   power of two of a group (`scaleV`, `invV`), the codes of a 128 by 128 block of the input, the dequantised block, the
   root mean square's sum, and the codes of a block of the normalised rows. -/
module

public import proofs.«01_k».proof.Proof.Gen.KernelIdeal
public import Idealize.ShloMosaic.Lib.Pipeline.ValueKit

@[expose] public section

set_option maxRecDepth 16384

noncomputable section

namespace Cert.KernelIdeal.Site

open Idealize.ShloMosaic Cert.KernelIdeal.Gen

variable {F : FTy → Type} [FloatOps F]

/-- One step of the search for a group's exponent. -/
def stepV (v : FVec F S1x128 .f32) (s : BitVec 32) (b : IVec S1x128 32) : IVec S1x128 32 :=
  select (cmpf .olt v (bitcastToFloat .f32 (addi b (broadcast S1x128 s)))) b (addi b (broadcast S1x128 s))

/-- The search, the exponent's greatest bit first. -/
def searchV (v : FVec F S1x128 .f32) : IVec S1x128 32 :=
  stepV v 8388608#32 <| stepV v 16777216#32 <| stepV v 33554432#32 <| stepV v 67108864#32 <|
    stepV v 134217728#32 <| stepV v 268435456#32 <| stepV v 536870912#32 <| stepV v 1073741824#32 <|
      broadcast S1x128 0#32

/-- The exponent of the power of two above a group's ratio. -/
def expV (b : IVec S1x128 32) : IVec S1x128 32 :=
  select (cmpi .slt b (broadcast S1x128 8388608#32)) (broadcast S1x128 0#32)
    (subi (shrsi b (broadcast S1x128 23#32)) (broadcast S1x128 126#32))

/-- The groups' scales, from their ratios. -/
def scaleV (v : FVec F S1x128 .f32) : FVec F S1x128 .f32 :=
  bitcastToFloat .f32 (shli (addi (expV (searchV v)) (broadcast S1x128 127#32)) (broadcast S1x128 23#32))

/-- The scales' inverses. -/
def invV (v : FVec F S1x128 .f32) : FVec F S1x128 .f32 :=
  bitcastToFloat .f32 (shli (subi (broadcast S1x128 127#32) (expV (searchV v))) (broadcast S1x128 23#32))

/-- A loaded block of the input with its groups along the columns. -/
def xT (x : Vec F S128x128 .bf16) : FVec F S128x128 .bf16 :=
  transpose S128x128 [1, 0] (shapeCast S128x128 x shapeCasts_S128x128_S128x128) transposes_S128x128_p1_0_S128x128

/-- The greatest of a column's eight runs of sixteen rows. -/
def max8 (a : FVec F S128x128 .bf16) : FVec F S16x128 .bf16 :=
  maximumf (maximumf (maximumf (maximumf (maximumf (maximumf (maximumf
    (extractStridedSlice S16x128 ![0, 0] a slices_S128x128_o0_0_S16x128)
    (extractStridedSlice S16x128 ![16, 0] a slices_S128x128_o16_0_S16x128))
    (extractStridedSlice S16x128 ![32, 0] a slices_S128x128_o32_0_S16x128))
    (extractStridedSlice S16x128 ![48, 0] a slices_S128x128_o48_0_S16x128))
    (extractStridedSlice S16x128 ![64, 0] a slices_S128x128_o64_0_S16x128))
    (extractStridedSlice S16x128 ![80, 0] a slices_S128x128_o80_0_S16x128))
    (extractStridedSlice S16x128 ![96, 0] a slices_S128x128_o96_0_S16x128))
    (extractStridedSlice S16x128 ![112, 0] a slices_S128x128_o112_0_S16x128)

/-- The ratios of the groups of a block of the input. -/
def ratioX (x : Vec F S128x128 .bf16) : FVec F S1x128 .f32 :=
  mulf (shapeCast S1x128 (multiReduction .maximumf [0] S128 (extf .f32 (max8 (absf (xT x))) bitsLt_bf16_f32)
      0xFF800000#32 reduces_S16x128_S128 (.inl rfl) rfl) shapeCasts_S128_S1x128)
    (broadcast S1x128 (Scalar.ofBits .f32 0x3B124925#32))

/-- A row of numbers repeated sixteen times, in bf16. -/
def rows16 (v : FVec F S1x128 .f32) : FVec F S16x128 .bf16 :=
  truncf .bf16 (broadcastTo S16x128 (shapeCast S1x128 v shapeCasts_S1x128_S1x128) broadcasts_S1x128_S16x128) bitsLt_bf16_f32

/-- A row of numbers repeated down a block, in bf16. -/
def full (v : FVec F S1x128 .f32) : FVec F S128x128 .bf16 :=
  concatenate S128x128 0 [⟨S16x128, rows16 v⟩, ⟨S16x128, rows16 v⟩, ⟨S16x128, rows16 v⟩, ⟨S16x128, rows16 v⟩,
    ⟨S16x128, rows16 v⟩, ⟨S16x128, rows16 v⟩, ⟨S16x128, rows16 v⟩, ⟨S16x128, rows16 v⟩]
    concatenates_S16x128_S16x128_S16x128_S16x128_S16x128_S16x128_S16x128_S16x128_S128x128_d0

/-- The codes of a block of the input, its groups along the columns. -/
def codesX (x : Vec F S128x128 .bf16) : FVec F S128x128 .fp8e4m3 :=
  truncf .fp8e4m3 (minimumf (broadcast S128x128 (Scalar.truncf .bf16 bitsLt_bf16_f32 (Scalar.ofBits .f32 0x43E00000#32)))
    (maximumf (broadcast S128x128 (Scalar.truncf .bf16 bitsLt_bf16_f32 (Scalar.ofBits .f32 0xC3E00000#32)))
      (mulf (xT x) (full (invV (ratioX x)))))) bitsLt_fp8e4m3_bf16

/-- What is stored of a block's scales. -/
def xsPay (x : Vec F S128x128 .bf16) : FVec F S1x1x128 .f32 :=
  shapeCast S1x1x128 (scaleV (ratioX x)) shapeCasts_S1x128_S1x1x128

/-- What is stored of a block dequantised. -/
def xdPay (x : Vec F S128x128 .bf16) : FVec F S128x128 .bf16 :=
  shapeCast S128x128 (mulf (extf .bf16 (codesX x) bitsLt_fp8e4m3_bf16) (full (scaleV (ratioX x)))) shapeCasts_S128x128_S128x128

/-- What is stored of a block's codes. -/
def xcPay (x : Vec F S128x128 .bf16) : FVec F S128x128 .fp8e4m3 :=
  transpose S128x128 [1, 0] (codesX x) transposes_S128x128_p1_0_S128x128

/-- A block of the weights dequantised. -/
def wdPay (s : Elt F .f32) (w : Vec F S128x128 .fp8e4m3) : FVec F S128x128 .bf16 :=
  shapeCast S128x128 (truncf .bf16 (mulf (extf .f32 w bitsLt_fp8e4m3_f32) (broadcast S128x128 s)) bitsLt_bf16_f32)
    shapeCasts_S128x128_S128x128

/-- A block of the last 64 rows of the weights dequantised. -/
def wdPay64 (s : Elt F .f32) (w : Vec F S64x128 .fp8e4m3) : FVec F S64x128 .bf16 :=
  shapeCast S64x128 (truncf .bf16 (mulf (extf .f32 w bitsLt_fp8e4m3_f32) (broadcast S64x128 s)) bitsLt_bf16_f32)
    shapeCasts_S64x128_S64x128

/-- The norm's factors, repeated along the columns. -/
def gbPay (g : Vec F S1x512 .f32) : FVec F S512x128 .f32 :=
  shapeCast S512x128 (transpose S512x128 [1, 0] (broadcastTo S128x512 (shapeCast S1x512 (shapeCast S1x512 g
    shapeCasts_S1x512_S1x512) shapeCasts_S1x512_S1x512) broadcasts_S1x512_S128x512) transposes_S128x512_p1_0_S512x128)
    shapeCasts_S512x128_S512x128

/-- The product. -/
def yPay (w : Vec F S576x2048 .bf16) (x : Vec F S2048x512 .bf16) : FVec F S576x512 .f32 :=
  shapeCast S576x512 (matmul dot_S576x2048_S2048x512_S576x512_1_0_0_1_n_n none w x (constant S576x512 .f32 0x00000000#32))
    shapeCasts_S576x512_S576x512

/-- The sum of the squares of the first `n` runs of eight rows. -/
def sqSum (f : Fin 64 → Vec F S8x128 .f32) : (n : ℕ) → n ≤ 64 → FVec F S8x128 .f32
  | 0, _ => broadcast S8x128 (Scalar.ofBits .f32 0x00000000#32)
  | n + 1, h => addf (sqSum f n (Nat.le_of_succ_le h)) (mulf (f ⟨n, h⟩) (f ⟨n, h⟩))

/-- One over the root mean square, from the sums of squares. -/
def rV (sq : FVec F S8x128 .f32) : FVec F S1x128 .f32 :=
  rsqrt (addf (mulf (shapeCast S1x128 (multiReduction .add [0] S128 sq 0x00000000#32 reduces_S8x128_S128 (.inl rfl) rfl)
    shapeCasts_S128_S1x128) (broadcast S1x128 (Scalar.ofBits .f32 0x3B000000#32)))
    (broadcast S1x128 (Scalar.ofBits .f32 0x358637BD#32)))

/-- A block of the normalised rows. -/
def cn (y g : Vec F S128x128 .f32) (r : FVec F S1x128 .f32) : FVec F S128x128 .f32 :=
  mulf (mulf y (broadcastTo S128x128 r broadcasts_S1x128_S128x128)) g

/-- The ratios of the groups of a block of the normalised rows. -/
def ratioC (n : FVec F S128x128 .f32) : FVec F S1x128 .f32 :=
  mulf (shapeCast S1x128 (multiReduction .maximumf [0] S128 (absf n) 0xFF800000#32 reduces_S128x128_S128 (.inl rfl) rfl)
    shapeCasts_S128_S1x128) (broadcast S1x128 (Scalar.ofBits .f32 0x3B124925#32))

/-- What is stored of such a block's scales. -/
def csPay (n : FVec F S128x128 .f32) : FVec F S1x1x128 .f32 :=
  shapeCast S1x1x128 (scaleV (ratioC n)) shapeCasts_S1x128_S1x1x128

/-- What is stored of such a block's codes. -/
def ccPay (n : FVec F S128x128 .f32) : FVec F S128x128 .fp8e4m3 :=
  transpose S128x128 [1, 0] (truncf .fp8e4m3 (minimumf (broadcast S128x128 (Scalar.ofBits .f32 0x43E00000#32))
    (maximumf (broadcast S128x128 (Scalar.ofBits .f32 0xC3E00000#32))
      (mulf n (broadcastTo S128x128 (invV (ratioC n)) broadcasts_S1x128_S128x128)))) bitsLt_fp8e4m3_f32)
    transposes_S128x128_p1_0_S128x128

/-- What is stored of the rows past the norm's. -/
def kpePay (y : Vec F S64x512 .f32) : FVec F S1x64x512 .bf16 :=
  shapeCast S1x64x512 (truncf .bf16 y bitsLt_bf16_f32) shapeCasts_S64x512_S1x64x512

/-- The tile of a block of the input that the kernel's `p`-th step takes: sixteen tiles of each run of 128 rows. -/
def xR (p : Fin 64) : Rect S512x2048 :=
  Rect.unit (s := S512x2048) ![128 * (p.val / 16), 128 * (p.val % 16)] S128x128.size (by
    intro a; have := p.isLt; fin_cases a <;> simp [S512x2048, S128x128] <;> omega)

/-- The same tile's place in the dequantised block, which is stored transposed. -/
def xdR (p : Fin 64) : Rect S2048x512 :=
  Rect.unit (s := S2048x512) ![128 * (p.val % 16), 128 * (p.val / 16)] S128x128.size (by
    intro a; have := p.isLt; fin_cases a <;> simp [S2048x512, S128x128] <;> omega)

/-- The place of the tile's scales. -/
def xsR (p : Fin 64) : Rect S1x16x512 :=
  Rect.unit (s := S1x16x512) ![0, p.val % 16, 128 * (p.val / 16)] S1x1x128.size (by
    intro a; have := p.isLt; fin_cases a <;> simp [S1x16x512, S1x1x128] <;> omega)

/-- A block of 128 rows of the weights. -/
def wR (p : Fin 64) : Rect S576x2048 :=
  Rect.unit (s := S576x2048) ![128 * (p.val / 16), 128 * (p.val % 16)] S128x128.size (by
    intro a; have := p.isLt; fin_cases a <;> simp [S576x2048, S128x128] <;> omega)

/-- A block of the last 64 rows of the weights. -/
def wR64 (p : Fin 16) : Rect S576x2048 :=
  Rect.unit (s := S576x2048) ![512, 128 * p.val] S64x128.size (by
    intro a; have := p.isLt; fin_cases a <;> simp [S576x2048, S64x128] <;> omega)

/-- The scale of a block of the weights. -/
def wsR (o : Fin 5) (k : Fin 16) : Rect S5x16 :=
  Rect.unit (s := S5x16) ![o.val, k.val] S1x1.size (by
    intro a; have := o.isLt; have := k.isLt; fin_cases a <;> simp [S5x16, S1x1] <;> omega)

/-- Eight rows of the product, at the `t`-th run of 128 columns. -/
def y8R (t : Fin 4) (n : Fin 64) : Rect S576x512 :=
  Rect.unit (s := S576x512) ![8 * n.val, 128 * t.val] S8x128.size (by
    intro a; have := t.isLt; have := n.isLt; fin_cases a <;> simp [S576x512, S8x128] <;> omega)

/-- A block of the product: four to each run of 128 columns. -/
def yR (p : Fin 16) : Rect S576x512 :=
  Rect.unit (s := S576x512) ![128 * (p.val % 4), 128 * (p.val / 4)] S128x128.size (by
    intro a; have := p.isLt; fin_cases a <;> simp [S576x512, S128x128] <;> omega)

/-- The block's rows of the norm's factors. -/
def gR (p : Fin 16) : Rect S512x128 :=
  Rect.unit (s := S512x128) ![128 * (p.val % 4), 0] S128x128.size (by
    intro a; have := p.isLt; fin_cases a <;> simp [S512x128, S128x128] <;> omega)

/-- The place of the block's codes. -/
def ccR (p : Fin 16) : Rect S512x512 :=
  Rect.unit (s := S512x512) ![128 * (p.val / 4), 128 * (p.val % 4)] S128x128.size (by
    intro a; have := p.isLt; fin_cases a <;> simp [S512x512, S128x128] <;> omega)

/-- The place of the block's scales. -/
def csR (p : Fin 16) : Rect S1x4x512 :=
  Rect.unit (s := S1x4x512) ![0, p.val % 4, 128 * (p.val / 4)] S1x1x128.size (by
    intro a; have := p.isLt; fin_cases a <;> simp [S1x4x512, S1x1x128] <;> omega)

/-- The stores of the input's codes, the last first. -/
def xcL (X : Fin 64 → Vec F S128x128 .bf16) : List (View.Piece (Elt F) S512x2048 .fp8e4m3) :=
  List.ofFn fun p : Fin 64 => ⟨xR p.rev, xcPay (X p.rev)⟩

/-- The stores of the input's scales. -/
def xsL (X : Fin 64 → Vec F S128x128 .bf16) : List (View.Piece (Elt F) S1x16x512 .f32) :=
  List.ofFn fun p : Fin 64 => ⟨xsR p.rev, xsPay (X p.rev)⟩

/-- The stores of the dequantised input. -/
def xdL (X : Fin 64 → Vec F S128x128 .bf16) : List (View.Piece (Elt F) S2048x512 .bf16) :=
  List.ofFn fun p : Fin 64 => ⟨xdR p.rev, xdPay (X p.rev)⟩

/-- The stores of the dequantised weights. -/
def wdL (S : Fin 5 → Fin 16 → Elt F .f32) (W : Fin 64 → Vec F S128x128 .fp8e4m3) (W' : Fin 16 → Vec F S64x128 .fp8e4m3) :
    List (View.Piece (Elt F) S576x2048 .bf16) :=
  (List.ofFn fun p : Fin 16 => ⟨wR64 p.rev, wdPay64 (S 4 p.rev) (W' p.rev)⟩)
    ++ List.ofFn fun p : Fin 64 => ⟨wR p.rev, wdPay
      (S ⟨p.rev.val / 16, by have := p.rev.isLt; omega⟩ ⟨p.rev.val % 16, by omega⟩) (W p.rev)⟩

/-- The store of the repeated factors. -/
def gbL (g : Vec F S1x512 .f32) : List (View.Piece (Elt F) S512x128 .f32) :=
  [⟨Rect.unit (s := S512x128) ![0, 0] S512x128.size inb_S512x128_S512x128_0_0, gbPay g⟩]

/-- The store of the product. -/
def yL (w : Vec F S576x2048 .bf16) (x : Vec F S2048x512 .bf16) : List (View.Piece (Elt F) S576x512 .f32) :=
  [⟨Rect.unit (s := S576x512) ![0, 0] S576x512.size inb_S576x512_S576x512_0_0, yPay w x⟩]

/-- A block of the normalised rows, from the loads of the product and of the factors. -/
def cnP (Y8 : Fin 4 → Fin 64 → Vec F S8x128 .f32) (Y G : Fin 16 → Vec F S128x128 .f32) (p : Fin 16) : FVec F S128x128 .f32 :=
  cn (Y p) (G p) (rV (sqSum (Y8 ⟨p.val / 4, by have := p.isLt; omega⟩) 64 le_rfl))

/-- The stores of the normalised rows' codes. -/
def ccL (Y8 : Fin 4 → Fin 64 → Vec F S8x128 .f32) (Y G : Fin 16 → Vec F S128x128 .f32) :
    List (View.Piece (Elt F) S512x512 .fp8e4m3) :=
  List.ofFn fun p : Fin 16 => ⟨ccR p.rev, ccPay (cnP Y8 Y G p.rev)⟩

/-- The stores of their scales. -/
def csL (Y8 : Fin 4 → Fin 64 → Vec F S8x128 .f32) (Y G : Fin 16 → Vec F S128x128 .f32) :
    List (View.Piece (Elt F) S1x4x512 .f32) :=
  List.ofFn fun p : Fin 16 => ⟨csR p.rev, csPay (cnP Y8 Y G p.rev)⟩

/-- The store of the rows past the norm's. -/
def kpeL (y : Vec F S64x512 .f32) : List (View.Piece (Elt F) S1x64x512 .bf16) :=
  [⟨Rect.unit (s := S1x64x512) ![0, 0, 0] S1x64x512.size inb_S1x64x512_S1x64x512_0_0_0, kpePay y⟩]

end Cert.KernelIdeal.Site

end
-- ==== Proof.ListsA.lean ====
/- What the body's run leaves in each buffer, as lists of stores written with one function per repeated piece of its text:
   the first grid point, where the weights are dequantised. -/
module

public import proofs.«01_k».proof.Proof.Gen.KernelIdeal.Frame.RunA
public import proofs.«01_k».proof.Proof.Site

@[expose] public section

set_option maxRecDepth 16384

noncomputable section

namespace Cert.KernelIdeal.Site.A

open Idealize.ShloMosaic Idealize.ShloMosaic.TcCoe Cert.KernelIdeal.Gen

variable {F : FTy → Type} [FloatOps F]
variable (c : Dev nD) (i : grid0.Coords) (arg1 : Memref sig .tc .vmem S512x2048 .bf16) (harg1 : arg1.IsWhole) (arg2 : Memref sig .tc .vmem S576x2048 .fp8e4m3) (harg2 : arg2.IsWhole) (arg3 : Memref sig .tc .smem S5x16 .f32) (harg3 : arg3.IsWhole) (arg4 : Memref sig .tc .vmem S1x512 .f32) (harg4 : arg4.IsWhole) (arg5 : Memref sig .tc .vmem S512x512 .fp8e4m3) (harg5 : arg5.IsWhole) (arg6 : Memref sig .tc .vmem S1x4x512 .f32) (harg6 : arg6.IsWhole) (arg7 : Memref sig .tc .vmem S1x64x512 .bf16) (harg7 : arg7.IsWhole) (arg8 : Memref sig .tc .vmem S512x2048 .fp8e4m3) (harg8 : arg8.IsWhole) (arg9 : Memref sig .tc .vmem S1x16x512 .f32) (harg9 : arg9.IsWhole) (arg10 : Memref sig .tc .vmem S576x2048 .bf16) (harg10 : arg10.IsWhole) (arg11 : Memref sig .tc .vmem S512x128 .f32) (harg11 : arg11.IsWhole) (arg12 : Memref sig .tc .vmem S2048x512 .bf16) (harg12 : arg12.IsWhole) (arg13 : Memref sig .tc .vmem S576x512 .f32) (harg13 : arg13.IsWhole)
variable (hc0 : cond0_0 i)
variable (x0 : Vec F S512x2048 .bf16) (x1 : Vec F S576x2048 .fp8e4m3) (x2 : Vec F S5x16 .f32) (x3 : Vec F S1x512 .f32)

/-- The loads of the input's tiles. -/
def xIn (p : Fin 64) : Vec F S128x128 .bf16 := arg1.view.readAt (Elt F) (xR p).toLoadRect (harg1.unread x0)

/-- The loads of the scales of the weights. -/
def sIn (o : Fin 5) (k : Fin 16) : Elt F .f32 :=
  arg3.view.readAt (Elt F) (wsR o k).toLoadRect (harg3.unread x2) (Shape.Idx.first (by change 0 < S1x1.numel; decide +kernel))

/-- The loads of the weights' blocks. -/
def wIn (p : Fin 64) : Vec F S128x128 .fp8e4m3 := arg2.view.readAt (Elt F) (wR p).toLoadRect (harg2.unread x1)

/-- The loads of the last rows' blocks. -/
def w64In (p : Fin 16) : Vec F S64x128 .fp8e4m3 := arg2.view.readAt (Elt F) (wR64 p).toLoadRect (harg2.unread x1)

/-- The load of the norm's factors. -/
def gIn : Vec F S1x512 .f32 :=
  arg4.view.readAt (Elt F) (Rect.unit (s := S1x512) ![0, 0] S1x512.size inb_S1x512_S1x512_0_0).toLoadRect (harg4.unread x3)

/-- The dequantised weights as the product loads them. -/
def wLd : Vec F S576x2048 .bf16 := arg10.view.readCov (wdL (sIn arg3 harg3 x2) (wIn arg2 harg2 x1) (w64In arg2 harg2 x1)) (Rect.unit (s := S576x2048) ![0, 0] S576x2048.size inb_S576x2048_S576x2048_0_0).toLoadRect

/-- The dequantised input as the product loads it. -/
def xLd : Vec F S2048x512 .bf16 :=
  arg12.view.readCov (xdL (xIn arg1 harg1 x0)) (Rect.unit (s := S2048x512) ![0, 0] S2048x512.size inb_S2048x512_S2048x512_0_0).toLoadRect

/-- The list of stores of the product. -/
def yS : List (View.Piece (Elt F) S576x512 .f32) := yL (wLd arg2 harg2 arg3 harg3 arg10 x1 x2) (xLd arg1 harg1 arg12 x0)

/-- The loads of eight rows of the product. -/
def y8Ld (t : Fin 4) (n : Fin 64) : Vec F S8x128 .f32 := arg13.view.readCov (yS arg1 harg1 arg2 harg2 arg3 harg3 arg10 arg12 x0 x1 x2) (y8R t n).toLoadRect

/-- The loads of blocks of the product. -/
def yLd (p : Fin 16) : Vec F S128x128 .f32 := arg13.view.readCov (yS arg1 harg1 arg2 harg2 arg3 harg3 arg10 arg12 x0 x1 x2) (yR p).toLoadRect

/-- The loads of the repeated factors. -/
def gLd (p : Fin 16) : Vec F S128x128 .f32 := arg11.view.readCov (gbL (gIn arg4 harg4 x3)) (gR p).toLoadRect

theorem cc : (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3).1
    = ccL (y8Ld arg1 harg1 arg2 harg2 arg3 harg3 arg10 arg12 arg13 x0 x1 x2) (yLd arg1 harg1 arg2 harg2 arg3 harg3 arg10 arg12 arg13 x0 x1 x2) (gLd arg4 harg4 arg11 x3) := by
  sl_kernel_rfl

theorem cs : (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3).2.1
    = csL (y8Ld arg1 harg1 arg2 harg2 arg3 harg3 arg10 arg12 arg13 x0 x1 x2) (yLd arg1 harg1 arg2 harg2 arg3 harg3 arg10 arg12 arg13 x0 x1 x2) (gLd arg4 harg4 arg11 x3) := by
  sl_kernel_rfl

theorem kpe : (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3).2.2.1
    = kpeL (arg13.view.readCov (yS arg1 harg1 arg2 harg2 arg3 harg3 arg10 arg12 x0 x1 x2) (Rect.unit (s := S576x512) ![512, 0] S64x512.size inb_S576x512_S64x512_512_0).toLoadRect) := by
  sl_kernel_rfl

theorem xc : (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3).2.2.2.1 = xcL (xIn arg1 harg1 x0) := by
  sl_kernel_rfl

theorem xs : (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3).2.2.2.2.1 = xsL (xIn arg1 harg1 x0) := by
  sl_kernel_rfl

theorem wd : (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3).2.2.2.2.2.1 = wdL (sIn arg3 harg3 x2) (wIn arg2 harg2 x1) (w64In arg2 harg2 x1) := by
  sl_kernel_rfl

theorem gb : (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3).2.2.2.2.2.2.1 = gbL (gIn arg4 harg4 x3) := by
  sl_kernel_rfl

end Cert.KernelIdeal.Site.A

end
-- ==== Proof.ListsB.lean ====
/- What the body's run leaves in each buffer, as lists of stores written with one function per repeated piece of its text:
   every grid point but the first, which finds the dequantised weights in scratch. -/
module

public import proofs.«01_k».proof.Proof.Gen.KernelIdeal.Frame.RunB
public import proofs.«01_k».proof.Proof.Site

@[expose] public section

set_option maxRecDepth 16384

noncomputable section

namespace Cert.KernelIdeal.Site.B

open Idealize.ShloMosaic Idealize.ShloMosaic.TcCoe Cert.KernelIdeal.Gen

variable {F : FTy → Type} [FloatOps F]
variable (c : Dev nD) (i : grid0.Coords) (arg1 : Memref sig .tc .vmem S512x2048 .bf16) (harg1 : arg1.IsWhole) (arg2 : Memref sig .tc .vmem S576x2048 .fp8e4m3) (harg2 : arg2.IsWhole) (arg3 : Memref sig .tc .smem S5x16 .f32) (harg3 : arg3.IsWhole) (arg4 : Memref sig .tc .vmem S1x512 .f32) (harg4 : arg4.IsWhole) (arg5 : Memref sig .tc .vmem S512x512 .fp8e4m3) (harg5 : arg5.IsWhole) (arg6 : Memref sig .tc .vmem S1x4x512 .f32) (harg6 : arg6.IsWhole) (arg7 : Memref sig .tc .vmem S1x64x512 .bf16) (harg7 : arg7.IsWhole) (arg8 : Memref sig .tc .vmem S512x2048 .fp8e4m3) (harg8 : arg8.IsWhole) (arg9 : Memref sig .tc .vmem S1x16x512 .f32) (harg9 : arg9.IsWhole) (arg10 : Memref sig .tc .vmem S576x2048 .bf16) (harg10 : arg10.IsWhole) (arg11 : Memref sig .tc .vmem S512x128 .f32) (harg11 : arg11.IsWhole) (arg12 : Memref sig .tc .vmem S2048x512 .bf16) (harg12 : arg12.IsWhole) (arg13 : Memref sig .tc .vmem S576x512 .f32) (harg13 : arg13.IsWhole)
variable (hc0 : ¬cond0_0 i)
variable (x0 : Vec F S512x2048 .bf16) (x1 : Vec F S576x2048 .fp8e4m3) (x2 : Vec F S5x16 .f32) (x3 : Vec F S1x512 .f32) (xs0 : Vec F S576x2048 .bf16) (xs1 : Vec F S512x128 .f32)

/-- The loads of the input's tiles. -/
def xIn (p : Fin 64) : Vec F S128x128 .bf16 := arg1.view.readAt (Elt F) (xR p).toLoadRect (harg1.unread x0)

/-- The dequantised weights as the product loads them. -/
def wLd : Vec F S576x2048 .bf16 := arg10.view.readAt (Elt F) (Rect.unit (s := S576x2048) ![0, 0] S576x2048.size inb_S576x2048_S576x2048_0_0).toLoadRect (harg10.unread xs0)

/-- The dequantised input as the product loads it. -/
def xLd : Vec F S2048x512 .bf16 :=
  arg12.view.readCov (xdL (xIn arg1 harg1 x0)) (Rect.unit (s := S2048x512) ![0, 0] S2048x512.size inb_S2048x512_S2048x512_0_0).toLoadRect

/-- The list of stores of the product. -/
def yS : List (View.Piece (Elt F) S576x512 .f32) := yL (wLd arg10 harg10 xs0) (xLd arg1 harg1 arg12 x0)

/-- The loads of eight rows of the product. -/
def y8Ld (t : Fin 4) (n : Fin 64) : Vec F S8x128 .f32 := arg13.view.readCov (yS arg1 harg1 arg10 harg10 arg12 x0 xs0) (y8R t n).toLoadRect

/-- The loads of blocks of the product. -/
def yLd (p : Fin 16) : Vec F S128x128 .f32 := arg13.view.readCov (yS arg1 harg1 arg10 harg10 arg12 x0 xs0) (yR p).toLoadRect

/-- The loads of the repeated factors. -/
def gLd (p : Fin 16) : Vec F S128x128 .f32 := arg11.view.readAt (Elt F) (gR p).toLoadRect (harg11.unread xs1)

theorem cc : (kernelRun0_B c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0 xs1).1
    = ccL (y8Ld arg1 harg1 arg10 harg10 arg12 arg13 x0 xs0) (yLd arg1 harg1 arg10 harg10 arg12 arg13 x0 xs0) (gLd arg11 harg11 xs1) := by
  sl_kernel_rfl

theorem cs : (kernelRun0_B c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0 xs1).2.1
    = csL (y8Ld arg1 harg1 arg10 harg10 arg12 arg13 x0 xs0) (yLd arg1 harg1 arg10 harg10 arg12 arg13 x0 xs0) (gLd arg11 harg11 xs1) := by
  sl_kernel_rfl

theorem kpe : (kernelRun0_B c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0 xs1).2.2.1
    = kpeL (arg13.view.readCov (yS arg1 harg1 arg10 harg10 arg12 x0 xs0) (Rect.unit (s := S576x512) ![512, 0] S64x512.size inb_S576x512_S64x512_512_0).toLoadRect) := by
  sl_kernel_rfl

theorem xc : (kernelRun0_B c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0 xs1).2.2.2.1 = xcL (xIn arg1 harg1 x0) := by
  sl_kernel_rfl

theorem xs : (kernelRun0_B c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0 xs1).2.2.2.2.1 = xsL (xIn arg1 harg1 x0) := by
  sl_kernel_rfl

end Cert.KernelIdeal.Site.B

end
-- ==== Proof.Blocks.lean ====
/- What one grid point leaves in each buffer, as a function of the blocks it reads: the same function at the first point, which
   dequantises the weights, and at the others, which find them in scratch. -/
module

public import proofs.«01_k».proof.Proof.ListsA
public import proofs.«01_k».proof.Proof.ListsB
public import proofs.«01_k».proof.Proof.Gen.KernelIdeal.Frame

@[expose] public section

set_option maxRecDepth 16384

noncomputable section

namespace Cert.KernelIdeal.Site

open Idealize.ShloMosaic Idealize.ShloMosaic.TcCoe Cert.KernelIdeal.Gen

variable {F : FTy → Type} [FloatOps F]

/-- The tiles of an input block. -/
def tiles (x0 : Vec F S512x2048 .bf16) (p : Fin 64) : Vec F S128x128 .bf16 := View.ld x0 (xR p)

/-- The codes of an input block. -/
def xcB (x0 : Vec F S512x2048 .bf16) : Vec F S512x2048 .fp8e4m3 := View.canon (xcL (tiles x0))

/-- The scales of an input block. -/
def xsB (x0 : Vec F S512x2048 .bf16) : Vec F S1x16x512 .f32 := View.canon (xsL (tiles x0))

/-- An input block dequantised. -/
def xdB (x0 : Vec F S512x2048 .bf16) : Vec F S2048x512 .bf16 := View.canon (xdL (tiles x0))

/-- The weights dequantised. -/
def wdB (x1 : Vec F S576x2048 .fp8e4m3) (x2 : Vec F S5x16 .f32) : Vec F S576x2048 .bf16 :=
  View.canon (wdL (fun o k => View.ld x2 (wsR o k) (Shape.Idx.first (by change 0 < S1x1.numel; decide +kernel)))
    (fun p => View.ld x1 (wR p)) (fun p => View.ld x1 (wR64 p)))

/-- The norm's factors repeated. -/
def gbB (x3 : Vec F S1x512 .f32) : Vec F S512x128 .f32 :=
  View.canon (gbL (View.ld x3 (Rect.unit (s := S1x512) ![0, 0] S1x512.size inb_S1x512_S1x512_0_0)))

/-- The product. -/
def yB (w : Vec F S576x2048 .bf16) (x : Vec F S2048x512 .bf16) : Vec F S576x512 .f32 :=
  View.canon (yL (View.ld w (Rect.unit (s := S576x2048) ![0, 0] S576x2048.size inb_S576x2048_S576x2048_0_0))
    (View.ld x (Rect.unit (s := S2048x512) ![0, 0] S2048x512.size inb_S2048x512_S2048x512_0_0)))

/-- The codes of the normalised rows, from the product and the repeated factors. -/
def ccB (y : Vec F S576x512 .f32) (g : Vec F S512x128 .f32) : Vec F S512x512 .fp8e4m3 :=
  View.canon (ccL (fun t n => View.ld y (y8R t n)) (fun p => View.ld y (yR p))
    (fun p => View.ld g (gR p)))

/-- Their scales. -/
def csB (y : Vec F S576x512 .f32) (g : Vec F S512x128 .f32) : Vec F S1x4x512 .f32 :=
  View.canon (csL (fun t n => View.ld y (y8R t n)) (fun p => View.ld y (yR p))
    (fun p => View.ld g (gR p)))

/-- The rows past the norm's. -/
def kpeB (y : Vec F S576x512 .f32) : Vec F S1x64x512 .bf16 :=
  View.canon (kpeL (View.ld y (Rect.unit (s := S576x512) ![512, 0] S64x512.size inb_S576x512_S64x512_512_0)))

namespace A

variable (c : Dev nD) (i : grid0.Coords) (arg1 : Memref sig .tc .vmem S512x2048 .bf16) (harg1 : arg1.IsWhole) (arg2 : Memref sig .tc .vmem S576x2048 .fp8e4m3) (harg2 : arg2.IsWhole) (arg3 : Memref sig .tc .smem S5x16 .f32) (harg3 : arg3.IsWhole) (arg4 : Memref sig .tc .vmem S1x512 .f32) (harg4 : arg4.IsWhole) (arg5 : Memref sig .tc .vmem S512x512 .fp8e4m3) (harg5 : arg5.IsWhole) (arg6 : Memref sig .tc .vmem S1x4x512 .f32) (harg6 : arg6.IsWhole) (arg7 : Memref sig .tc .vmem S1x64x512 .bf16) (harg7 : arg7.IsWhole) (arg8 : Memref sig .tc .vmem S512x2048 .fp8e4m3) (harg8 : arg8.IsWhole) (arg9 : Memref sig .tc .vmem S1x16x512 .f32) (harg9 : arg9.IsWhole) (arg10 : Memref sig .tc .vmem S576x2048 .bf16) (harg10 : arg10.IsWhole) (arg11 : Memref sig .tc .vmem S512x128 .f32) (harg11 : arg11.IsWhole) (arg12 : Memref sig .tc .vmem S2048x512 .bf16) (harg12 : arg12.IsWhole) (arg13 : Memref sig .tc .vmem S576x512 .f32) (harg13 : arg13.IsWhole)
variable (hc0 : cond0_0 i)
variable (x0 : Vec F S512x2048 .bf16) (x1 : Vec F S576x2048 .fp8e4m3) (x2 : Vec F S5x16 .f32) (x3 : Vec F S1x512 .f32)

theorem xIn_eq : xIn arg1 harg1 x0 = tiles x0 := by
  funext p
  unfold xIn tiles
  rw [View.readAt_eq_ld, harg1.read_unread]

theorem xLd_eq : xLd arg1 harg1 arg12 x0
    = View.ld (xdB x0) (Rect.unit (s := S2048x512) ![0, 0] S2048x512.size inb_S2048x512_S2048x512_0_0) := by
  unfold xLd xdB
  rw [View.readCov_eq_canon', xIn_eq]

theorem sIn_eq : sIn arg3 harg3 x2 = fun o k =>
    View.ld x2 (wsR o k) (Shape.Idx.first (by change 0 < S1x1.numel; decide +kernel)) := by
  funext o k
  unfold sIn
  rw [View.readAt_eq_ld, harg3.read_unread]

theorem wIn_eq : wIn arg2 harg2 x1 = fun p => View.ld x1 (wR p) := by
  funext p
  unfold wIn
  rw [View.readAt_eq_ld, harg2.read_unread]

theorem w64In_eq : w64In arg2 harg2 x1 = fun p => View.ld x1 (wR64 p) := by
  funext p
  unfold w64In
  rw [View.readAt_eq_ld, harg2.read_unread]

theorem gIn_eq : gIn arg4 harg4 x3
    = View.ld x3 (Rect.unit (s := S1x512) ![0, 0] S1x512.size inb_S1x512_S1x512_0_0) := by
  unfold gIn
  rw [View.readAt_eq_ld, harg4.read_unread]

theorem wLd_eq : wLd arg2 harg2 arg3 harg3 arg10 x1 x2
    = View.ld (wdB x1 x2) (Rect.unit (s := S576x2048) ![0, 0] S576x2048.size inb_S576x2048_S576x2048_0_0) := by
  unfold wLd wdB
  rw [View.readCov_eq_canon', sIn_eq, wIn_eq, w64In_eq]

theorem gLd_eq : gLd arg4 harg4 arg11 x3 = fun p => View.ld (gbB x3) (gR p) := by
  funext p
  unfold gLd gbB
  rw [View.readCov_eq_canon', gIn_eq]

theorem yS_eq (r : Rect S576x512) : arg13.view.readCov (yS arg1 harg1 arg2 harg2 arg3 harg3 arg10 arg12 x0 x1 x2) r.toLoadRect
    = View.ld (yB (wdB x1 x2) (xdB x0)) r := by
  unfold yS yB
  rw [View.readCov_eq_canon', wLd_eq, xLd_eq]

theorem y8Ld_eq : y8Ld arg1 harg1 arg2 harg2 arg3 harg3 arg10 arg12 arg13 x0 x1 x2 = fun t n => View.ld (yB (wdB x1 x2) (xdB x0)) (y8R t n) := by
  funext t n
  unfold y8Ld
  rw [yS_eq]

theorem yLd_eq : yLd arg1 harg1 arg2 harg2 arg3 harg3 arg10 arg12 arg13 x0 x1 x2 = fun p => View.ld (yB (wdB x1 x2) (xdB x0)) (yR p) := by
  funext p
  unfold yLd
  rw [yS_eq]

theorem out_cc : out0_A_4 c i arg1 harg1 arg2 harg2 arg3 harg3 arg4 harg4 arg5 harg5 arg6 harg6 arg7 harg7 arg8 harg8 arg9 harg9 arg10 harg10 arg11 harg11 arg12 harg12 arg13 harg13 hc0 x0 x1 x2 x3 = ccB (yB (wdB x1 x2) (xdB x0)) (gbB x3) := by
  unfold out0_A_4 ccB
  rw [View.read_writes_junk_eq_canon, cc, y8Ld_eq, yLd_eq, gLd_eq]

theorem out_cs : out0_A_5 c i arg1 harg1 arg2 harg2 arg3 harg3 arg4 harg4 arg5 harg5 arg6 harg6 arg7 harg7 arg8 harg8 arg9 harg9 arg10 harg10 arg11 harg11 arg12 harg12 arg13 harg13 hc0 x0 x1 x2 x3 = csB (yB (wdB x1 x2) (xdB x0)) (gbB x3) := by
  unfold out0_A_5 csB
  rw [View.read_writes_junk_eq_canon, cs, y8Ld_eq, yLd_eq, gLd_eq]

theorem out_kpe : out0_A_6 c i arg1 harg1 arg2 harg2 arg3 harg3 arg4 harg4 arg5 harg5 arg6 harg6 arg7 harg7 arg8 harg8 arg9 harg9 arg10 harg10 arg11 harg11 arg12 harg12 arg13 harg13 hc0 x0 x1 x2 x3 = kpeB (yB (wdB x1 x2) (xdB x0)) := by
  unfold out0_A_6 kpeB
  rw [View.read_writes_junk_eq_canon, kpe, yS_eq]

theorem out_xc : out0_A_7 c i arg1 harg1 arg2 harg2 arg3 harg3 arg4 harg4 arg5 harg5 arg6 harg6 arg7 harg7 arg8 harg8 arg9 harg9 arg10 harg10 arg11 harg11 arg12 harg12 arg13 harg13 hc0 x0 x1 x2 x3 = xcB x0 := by
  unfold out0_A_7 xcB
  rw [View.read_writes_junk_eq_canon, xc, xIn_eq]

theorem out_xs : out0_A_8 c i arg1 harg1 arg2 harg2 arg3 harg3 arg4 harg4 arg5 harg5 arg6 harg6 arg7 harg7 arg8 harg8 arg9 harg9 arg10 harg10 arg11 harg11 arg12 harg12 arg13 harg13 hc0 x0 x1 x2 x3 = xsB x0 := by
  unfold out0_A_8 xsB
  rw [View.read_writes_junk_eq_canon, xs, xIn_eq]

theorem out_wd : sout0_A_0 c i arg1 harg1 arg2 harg2 arg3 harg3 arg4 harg4 arg5 harg5 arg6 harg6 arg7 harg7 arg8 harg8 arg9 harg9 arg10 harg10 arg11 harg11 arg12 harg12 arg13 harg13 hc0 x0 x1 x2 x3 = wdB x1 x2 := by
  unfold sout0_A_0 wdB
  rw [View.read_writes_junk_eq_canon, wd, sIn_eq, wIn_eq, w64In_eq]

theorem out_gb : sout0_A_1 c i arg1 harg1 arg2 harg2 arg3 harg3 arg4 harg4 arg5 harg5 arg6 harg6 arg7 harg7 arg8 harg8 arg9 harg9 arg10 harg10 arg11 harg11 arg12 harg12 arg13 harg13 hc0 x0 x1 x2 x3 = gbB x3 := by
  unfold sout0_A_1 gbB
  rw [View.read_writes_junk_eq_canon, gb, gIn_eq]

end A

namespace B

variable (c : Dev nD) (i : grid0.Coords) (arg1 : Memref sig .tc .vmem S512x2048 .bf16) (harg1 : arg1.IsWhole) (arg2 : Memref sig .tc .vmem S576x2048 .fp8e4m3) (harg2 : arg2.IsWhole) (arg3 : Memref sig .tc .smem S5x16 .f32) (harg3 : arg3.IsWhole) (arg4 : Memref sig .tc .vmem S1x512 .f32) (harg4 : arg4.IsWhole) (arg5 : Memref sig .tc .vmem S512x512 .fp8e4m3) (harg5 : arg5.IsWhole) (arg6 : Memref sig .tc .vmem S1x4x512 .f32) (harg6 : arg6.IsWhole) (arg7 : Memref sig .tc .vmem S1x64x512 .bf16) (harg7 : arg7.IsWhole) (arg8 : Memref sig .tc .vmem S512x2048 .fp8e4m3) (harg8 : arg8.IsWhole) (arg9 : Memref sig .tc .vmem S1x16x512 .f32) (harg9 : arg9.IsWhole) (arg10 : Memref sig .tc .vmem S576x2048 .bf16) (harg10 : arg10.IsWhole) (arg11 : Memref sig .tc .vmem S512x128 .f32) (harg11 : arg11.IsWhole) (arg12 : Memref sig .tc .vmem S2048x512 .bf16) (harg12 : arg12.IsWhole) (arg13 : Memref sig .tc .vmem S576x512 .f32) (harg13 : arg13.IsWhole)
variable (hc0 : ¬cond0_0 i)
variable (x0 : Vec F S512x2048 .bf16) (x1 : Vec F S576x2048 .fp8e4m3) (x2 : Vec F S5x16 .f32) (x3 : Vec F S1x512 .f32) (xs0 : Vec F S576x2048 .bf16) (xs1 : Vec F S512x128 .f32)

theorem xIn_eq : xIn arg1 harg1 x0 = tiles x0 := by
  funext p
  unfold xIn tiles
  rw [View.readAt_eq_ld, harg1.read_unread]

theorem xLd_eq : xLd arg1 harg1 arg12 x0
    = View.ld (xdB x0) (Rect.unit (s := S2048x512) ![0, 0] S2048x512.size inb_S2048x512_S2048x512_0_0) := by
  unfold xLd xdB
  rw [View.readCov_eq_canon', xIn_eq]

theorem wLd_eq : wLd arg10 harg10 xs0
    = View.ld xs0 (Rect.unit (s := S576x2048) ![0, 0] S576x2048.size inb_S576x2048_S576x2048_0_0) := by
  unfold wLd
  rw [View.readAt_eq_ld, harg10.read_unread]

theorem gLd_eq : gLd arg11 harg11 xs1 = fun p => View.ld xs1 (gR p) := by
  funext p
  unfold gLd
  rw [View.readAt_eq_ld, harg11.read_unread]

theorem yS_eq (r : Rect S576x512) : arg13.view.readCov (yS arg1 harg1 arg10 harg10 arg12 x0 xs0) r.toLoadRect
    = View.ld (yB xs0 (xdB x0)) r := by
  unfold yS yB
  rw [View.readCov_eq_canon', wLd_eq, xLd_eq]

theorem y8Ld_eq : y8Ld arg1 harg1 arg10 harg10 arg12 arg13 x0 xs0 = fun t n => View.ld (yB xs0 (xdB x0)) (y8R t n) := by
  funext t n
  unfold y8Ld
  rw [yS_eq]

theorem yLd_eq : yLd arg1 harg1 arg10 harg10 arg12 arg13 x0 xs0 = fun p => View.ld (yB xs0 (xdB x0)) (yR p) := by
  funext p
  unfold yLd
  rw [yS_eq]

theorem out_cc : out0_B_4 c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0 xs1 = ccB (yB xs0 (xdB x0)) xs1 := by
  unfold out0_B_4 ccB
  rw [View.read_writes_junk_eq_canon, cc, y8Ld_eq, yLd_eq, gLd_eq]

theorem out_cs : out0_B_5 c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0 xs1 = csB (yB xs0 (xdB x0)) xs1 := by
  unfold out0_B_5 csB
  rw [View.read_writes_junk_eq_canon, cs, y8Ld_eq, yLd_eq, gLd_eq]

theorem out_kpe : out0_B_6 c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0 xs1 = kpeB (yB xs0 (xdB x0)) := by
  unfold out0_B_6 kpeB
  rw [View.read_writes_junk_eq_canon, kpe, yS_eq]

theorem out_xc : out0_B_7 c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0 xs1 = xcB x0 := by
  unfold out0_B_7 xcB
  rw [View.read_writes_junk_eq_canon, xc, xIn_eq]

theorem out_xs : out0_B_8 c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0 xs1 = xsB x0 := by
  unfold out0_B_8 xsB
  rw [View.read_writes_junk_eq_canon, xs, xIn_eq]

end B

end Cert.KernelIdeal.Site

end
-- ==== Proof.AtPoint.lean ====
/- What the buffers hold after each grid point: the scratch for the weights is what the first point left, at every point. -/
module

public import proofs.«01_k».proof.Proof.Blocks

@[expose] public section

set_option maxRecDepth 16384

noncomputable section

namespace Cert.KernelIdeal.Site

open Idealize.ShloMosaic Idealize.ShloMosaic.TcCoe Cert.KernelIdeal.Gen

variable {F : FTy → Type} [FloatOps F]
variable (m : (ℓ : Loc nD τ sig) → Buf (Elt F) ℓ) (c : Dev nD)

/-- The first grid point. -/
def t0 : Fin cfg0.N := ⟨0, by decide +kernel⟩

/-- The dequantised weights. -/
def wdM : Vec F S576x2048 .bf16 := wdB (iblk m c 1 t0) (iblk m c 2 t0)

/-- The repeated factors of the norm. -/
def gbM : Vec F S512x128 .f32 := gbB (iblk m c 3 t0)

/-- The product at a grid point. -/
def yM (t : Fin cfg0.N) : Vec F S576x512 .f32 := yB (wdM m c) (xdB (iblk m c 0 t))

theorem point (n : ℕ) : ∀ hn : n < cfg0.N, outsAt0 m c n hn
    = (ccB (yM m c ⟨n, hn⟩) (gbM m c), csB (yM m c ⟨n, hn⟩) (gbM m c), kpeB (yM m c ⟨n, hn⟩),
        xcB (iblk m c 0 ⟨n, hn⟩), xsB (iblk m c 0 ⟨n, hn⟩), wdM m c, gbM m c) := by
  induction n with
  | zero =>
    intro hn
    rw [outsAt0_A m c ⟨0, hn⟩ rfl, A.out_cc, A.out_cs, A.out_kpe, A.out_xc, A.out_xs, A.out_wd, A.out_gb]
    rfl
  | succ n ih =>
    intro hn
    have hN : n + 1 < 64 := hn
    have h0 : ¬ (n + 1) % 64 = 0 := by omega
    rw [outsAt0_B m c ⟨n + 1, hn⟩ h0, B.out_cc, B.out_cs, B.out_kpe, B.out_xc, B.out_xs]
    unfold sout0_B_0 sout0_B_1
    simp only [Nat.add_sub_cancel, ih]
    rfl

end Cert.KernelIdeal.Site

end
-- ==== Proof.Scale.lean ====
/- The power of two a group is divided by, as a function of one extended real: what the kernel's search over the eight
   bits of the exponent gives, and the least power of two above the number, are the same (`kScale_eq`, `kInv_eq`). -/
module

public import Idealize.ShloMosaic.Lib.Pointwise

@[expose] public section

set_option maxRecDepth 16384

noncomputable section

namespace Cert.Scale

open Idealize.ShloMosaic

/-- One step of the search: the bit of weight `s` is kept when the word with it is not above `v`. -/
def step (v : EReal) (s b : BitVec 32) : BitVec 32 :=
  if v < Ideal.ofBits .f32 (b + s) then b else b + s

/-- The search over the exponent's eight bits, the greatest first. -/
def search (v : EReal) : BitVec 32 :=
  step v 8388608#32 <| step v 16777216#32 <| step v 33554432#32 <| step v 67108864#32 <|
    step v 134217728#32 <| step v 268435456#32 <| step v 536870912#32 <| step v 1073741824#32 0#32

/-- The exponent the kernel takes from the found word. -/
def kExp (b : BitVec 32) : BitVec 32 :=
  if b.slt 8388608#32 then 0#32 else b.sshiftRight 23 - 126#32

/-- The kernel's scale. -/
def kScale (v : EReal) : EReal := Ideal.ofBits .f32 ((kExp (search v) + 127#32) <<< 23)

/-- The kernel's inverse scale. -/
def kInv (v : EReal) : EReal := Ideal.ofBits .f32 ((127#32 - kExp (search v)) <<< 23)

/-- The `k`-th power of two the reference compares with. -/
def power (k : ℕ) : EReal := (((2 : ℝ) ^ ((k : ℤ) - 125) : ℝ) : EReal)

/-- The reference's scale: one below the smallest normal number, else the least power above `v`. -/
def rScale (v : EReal) : EReal :=
  if v < (((2 : ℝ) ^ (-126 : ℤ) : ℝ) : EReal) then 1
  else (Finset.univ : Finset (Fin 252)).fold min ⊤ fun k => if v < power k.val then power k.val else ⊤

/-- The number whose word has exponent field `b` and no fraction. -/
def T (b : ℕ) : EReal := Ideal.ofBits .f32 (BitVec.ofNat 32 (b * 8388608))

theorem fields : ∀ b : Fin 256,
    (BitVec.extractLsb' 23 8 (BitVec.ofNat 32 (b.val * 8388608))).toNat = b.val
    ∧ (BitVec.extractLsb' 0 23 (BitVec.ofNat 32 (b.val * 8388608))).toNat = 0
    ∧ (BitVec.extractLsb' 31 1 (BitVec.ofNat 32 (b.val * 8388608)) == 1#1) = false := by
  decide +kernel

theorem T_zero : T 0 = 0 := by
  have h := fields ⟨0, by decide⟩
  simp only at h
  unfold T Ideal.ofBits Ideal.ieee
  simp only [h.1, h.2.1, h.2.2]
  norm_num

theorem T_top : T 255 = ⊤ := by
  have h := fields ⟨255, by decide⟩
  simp only at h
  unfold T Ideal.ofBits Ideal.ieee
  simp only [h.1, h.2.1, h.2.2]
  norm_num

theorem T_normal (b : ℕ) (h1 : 1 ≤ b) (h2 : b ≤ 254) : T b = (((2 : ℝ) ^ ((b : ℤ) - 127) : ℝ) : EReal) := by
  have h := fields ⟨b, by omega⟩
  simp only at h
  unfold T Ideal.ofBits Ideal.ieee
  simp only [h.1, h.2.1, h.2.2]
  rw [if_neg (by norm_num; omega), if_neg (by omega)]
  congr 1
  have e : ((b : ℤ) - 127) = 23 + ((b : ℤ) - (2 ^ (8 - 1) - 1) - ((23 : ℕ) : ℤ)) := by push_cast; ring
  rw [e, zpow_add₀ (by norm_num)]
  norm_num

theorem power_mono {a b : ℤ} (h : a ≤ b) :
    ((((2 : ℝ) ^ a : ℝ)) : EReal) ≤ (((2 : ℝ) ^ b : ℝ) : EReal) :=
  EReal.coe_le_coe_iff.mpr (zpow_le_zpow_right₀ (by norm_num) h)

theorem T_mono (a b : ℕ) (h : a ≤ b) (hb : b ≤ 254) : T a ≤ T b := by
  rcases Nat.eq_zero_or_pos a with rfl | ha
  · rw [T_zero]
    rcases Nat.eq_zero_or_pos b with rfl | hb'
    · rw [T_zero]
    · rw [T_normal b hb' hb]; exact EReal.coe_nonneg.mpr (by positivity)
  · rw [T_normal a ha (by omega), T_normal b (by omega) hb]
    exact power_mono (by omega)

/-- What is known of `v` when the bits found are those of `b` and `w` more values are open. -/
def Inv (v : EReal) (b w : ℕ) : Prop :=
  b + w ≤ 256 ∧ T b ≤ v ∧ ∀ c, b + w ≤ c → c ≤ 254 → v < T c

theorem step_inv (v : EReal) (w : ℕ) (hw : 0 < w) (s : BitVec 32) (hs : s = BitVec.ofNat 32 (w * 8388608)) (x : BitVec 32)
    (h : ∃ b, x = BitVec.ofNat 32 (b * 8388608) ∧ Inv v b (w + w)) :
    ∃ b, step v s x = BitVec.ofNat 32 (b * 8388608) ∧ Inv v b w := by
  obtain ⟨b, rfl, h1, h2, h3⟩ := h
  have e : BitVec.ofNat 32 (b * 8388608) + s = BitVec.ofNat 32 ((b + w) * 8388608) := by
    rw [hs, ← BitVec.ofNat_add, Nat.add_mul]
  unfold step
  rw [e]
  by_cases hlt : v < Ideal.ofBits .f32 (BitVec.ofNat 32 ((b + w) * 8388608))
  · rw [if_pos hlt]
    exact ⟨b, rfl, by omega, h2, fun c hc hc' => lt_of_lt_of_le hlt (T_mono _ _ hc hc')⟩
  · rw [if_neg hlt]
    exact ⟨b + w, rfl, by omega, not_lt.mp hlt, fun c hc hc' => h3 c (by omega) hc'⟩

/-- The search finds the field `b` with `T b ≤ v < T (b + 1)`. -/
theorem search_spec (v : EReal) (h0 : 0 ≤ v) (h1 : v < (((2 : ℝ) ^ (126 : ℤ) : ℝ) : EReal)) :
    ∃ b, b ≤ 252 ∧ search v = BitVec.ofNat 32 (b * 8388608) ∧ T b ≤ v ∧ v < T (b + 1) := by
  have s0 : ∃ b, (0#32) = BitVec.ofNat 32 (b * 8388608) ∧ Inv v b (128 + 128) :=
    ⟨0, rfl, by omega, by rw [T_zero]; exact h0, fun c hc hc' => by omega⟩
  have s1 := step_inv v 128 (by omega) 1073741824#32 rfl _ s0
  have s2 := step_inv v 64 (by omega) 536870912#32 rfl _ s1
  have s3 := step_inv v 32 (by omega) 268435456#32 rfl _ s2
  have s4 := step_inv v 16 (by omega) 134217728#32 rfl _ s3
  have s5 := step_inv v 8 (by omega) 67108864#32 rfl _ s4
  have s6 := step_inv v 4 (by omega) 33554432#32 rfl _ s5
  have s7 := step_inv v 2 (by omega) 16777216#32 rfl _ s6
  obtain ⟨b, hb, i1, i2, i3⟩ := step_inv v 1 (by omega) 8388608#32 rfl _ s7
  have hT : T 253 = (((2 : ℝ) ^ (126 : ℤ) : ℝ) : EReal) := T_normal 253 (by omega) (by omega)
  have hb2 : b ≤ 252 := by
    by_contra hc
    have : T 253 ≤ v := by
      rcases Nat.lt_or_ge b 255 with hb' | hb'
      · exact (T_mono 253 b (by omega) (by omega)).trans i2
      · have hb'' : b = 255 := by omega
        subst hb''
        rw [T_top] at i2
        exact le_top.trans i2
    rw [hT] at this
    exact absurd h1 (not_lt.mpr this)
  exact ⟨b, hb2, hb, i2, i3 (b + 1) (by omega) (by omega)⟩

theorem words : ∀ b : Fin 253,
    (kExp (BitVec.ofNat 32 (b.val * 8388608)) + 127#32) <<< 23
        = BitVec.ofNat 32 ((if b.val = 0 then 127 else b.val + 1) * 8388608)
    ∧ (127#32 - kExp (BitVec.ofNat 32 (b.val * 8388608))) <<< 23
        = BitVec.ofNat 32 ((if b.val = 0 then 127 else 253 - b.val) * 8388608) := by
  decide +kernel

theorem one_T : T 127 = 1 := by
  rw [T_normal 127 (by omega) (by omega)]; norm_num

/-- Both scales, by the exponent found. -/
theorem scales (v : EReal) (h0 : 0 ≤ v) (h1 : v < (((2 : ℝ) ^ (126 : ℤ) : ℝ) : EReal)) :
    ∃ e : ℤ, rScale v = (((2 : ℝ) ^ e : ℝ) : EReal) ∧ kScale v = (((2 : ℝ) ^ e : ℝ) : EReal)
      ∧ kInv v = (((2 : ℝ) ^ (-e) : ℝ) : EReal) := by
  obtain ⟨b, hb, hs, hlo, hhi⟩ := search_spec v h0 h1
  have hw := words ⟨b, by omega⟩
  simp only at hw
  have kS : kScale v = T (if b = 0 then 127 else b + 1) := by unfold kScale T; rw [hs, hw.1]
  have kI : kInv v = T (if b = 0 then 127 else 253 - b) := by unfold kInv T; rw [hs, hw.2]
  rcases Nat.eq_zero_or_pos b with rfl | hpos
  · refine ⟨0, ?_, ?_, ?_⟩
    · unfold rScale
      rw [if_pos]
      · norm_num
      · have := T_normal 1 (by omega) (by omega)
        rw [zero_add, this] at hhi
        exact hhi
    · rw [kS, if_pos rfl, one_T]; norm_num
    · rw [kI, if_pos rfl, one_T]; norm_num
  · rw [if_neg (by omega)] at kS kI
    rw [T_normal _ (by omega) (by omega)] at kS kI hlo hhi
    refine ⟨(b : ℤ) - 126, ?_, ?_, ?_⟩
    · unfold rScale
      rw [if_neg]
      · apply le_antisymm
        · rw [Finset.fold_min_le]
          refine Or.inr ⟨⟨b - 1, by omega⟩, Finset.mem_univ _, ?_⟩
          have hp : power (b - 1) = (((2 : ℝ) ^ ((b : ℤ) - 126) : ℝ) : EReal) := by
            unfold power; congr 2; omega
          rw [if_pos]
          · exact hp.le
          · refine lt_of_lt_of_eq hhi ?_
            show _ = power (b - 1)
            rw [hp]; congr 2; push_cast; ring
        · rw [Finset.le_fold_min]
          refine ⟨le_top, fun k _ => ?_⟩
          by_cases hk : v < power k.val
          · rw [if_pos hk]
            have hlt := lt_of_le_of_lt hlo hk
            unfold power at hlt ⊢
            rw [EReal.coe_lt_coe_iff, zpow_lt_zpow_iff_right₀ (by norm_num)] at hlt
            exact power_mono (by omega)
          · rw [if_neg hk]; exact le_top
      · rw [not_lt]
        exact (power_mono (by omega)).trans hlo
    · rw [kS]; congr 2; push_cast; ring
    · rw [kI]; congr 2; omega

theorem kScale_eq (v : EReal) (h0 : 0 ≤ v) (h1 : v < (((2 : ℝ) ^ (126 : ℤ) : ℝ) : EReal)) : kScale v = rScale v := by
  obtain ⟨e, h, h', _⟩ := scales v h0 h1
  rw [h, h']

theorem kInv_eq (v : EReal) (h0 : 0 ≤ v) (h1 : v < (((2 : ℝ) ^ (126 : ℤ) : ℝ) : EReal)) :
    kInv v = Ideal.div 1 (rScale v) := by
  obtain ⟨e, h, _, h'⟩ := scales v h0 h1
  rw [h, h']
  have h2 : (2 : ℝ) ^ e ≠ 0 := by positivity
  unfold Ideal.div
  rw [if_neg (by exact_mod_cast h2), one_mul, ← EReal.coe_inv, zpow_neg]

end Cert.Scale

end
-- ==== Proof.Tile.lean ====
/- The repeated pieces of the body at an index, over the extended reals. -/
module

public import proofs.«01_k».proof.Proof.Site
public import proofs.«01_k».proof.Proof.Scale
public import Idealize.ShloMosaic.Lib.Pointwise

@[expose] public section

set_option maxRecDepth 16384

noncomputable section

namespace Cert.KernelIdeal.Site

open Idealize.ShloMosaic Idealize.ShloMosaic.TcCoe Cert.KernelIdeal.Gen Cert.Scale

/-- The greatest magnitude of a group. -/
def amax (f : Fin 128 → EReal) : EReal := (Finset.univ : Finset (Fin 128)).sup fun k => max (f k) (-f k)

/-- A group's ratio. -/
def ratio (f : Fin 128 → EReal) : EReal := amax f * Ideal.ofBits .f32 0x3B124925#32

/-- A number clipped to the codes' range. -/
def clip (v : EReal) : EReal := min (Ideal.ofBits .f32 0x43E00000#32) (max (Ideal.ofBits .f32 0xC3E00000#32) v)

theorem stepV_apply (v : FVec Ideal S1x128 .f32) (s : BitVec 32) (b : IVec S1x128 32) (j : S1x128.Idx) :
    stepV v s b j = step (v j) s (b j) := by
  unfold stepV step
  pointwise
  rfl

theorem searchV_apply (v : FVec Ideal S1x128 .f32) (j : S1x128.Idx) : searchV v j = search (v j) := by
  unfold searchV search
  iterate 8 rw [stepV_apply]
  rfl

theorem expV_apply (b : IVec S1x128 32) (j : S1x128.Idx) : expV b j = kExp (b j) := by
  unfold expV kExp
  pointwise
  by_cases h : (b j).slt 8388608#32 = true
  · rw [if_pos h, show IntOp.cmpi CmpIPredicate.slt (b j) 8388608#32 = 1#1 by simp [IntOp.cmpi, h]]
    rfl
  · rw [if_neg h, show IntOp.cmpi CmpIPredicate.slt (b j) 8388608#32 = 0#1 by simp [IntOp.cmpi, h]]
    rfl

theorem scaleV_apply (v : FVec Ideal S1x128 .f32) (j : S1x128.Idx) : scaleV v j = kScale (v j) := by
  rw [kScale, ← searchV_apply, ← expV_apply]
  unfold scaleV
  pointwise
  rfl

theorem invV_apply (v : FVec Ideal S1x128 .f32) (j : S1x128.Idx) : invV v j = kInv (v j) := by
  rw [kInv, ← searchV_apply, ← expV_apply]
  unfold invV
  pointwise
  rfl

theorem full_apply (v : FVec Ideal S1x128 .f32) (k a : Fin 128) : full v (ix2 k a) = v (ix2 (0 : Fin 1) a) := by
  unfold full rows16
  pointwise
  split_ifs <;> rfl

theorem xT_apply (x : Vec Ideal S128x128 .bf16) (k a : Fin 128) : xT x (ix2 k a) = x (ix2 a k) := by
  unfold xT
  pointwise

theorem max8_apply (x : FVec Ideal S128x128 .bf16) (q : Fin 16) (a : Fin 128) :
    max8 x (ix2 q a) = (Finset.univ : Finset (Fin 8)).sup fun n => x (ix2 (⟨16 * n.val + q.val, by omega⟩ : Fin 128) a) := by
  unfold max8
  pointwise
  rw [show (Finset.univ : Finset (Fin 8)) = {0, 1, 2, 3, 4, 5, 6, 7} from rfl]
  simp only [Finset.sup_insert, Finset.sup_singleton, max_assoc]
  refine congrArg₂ max ?_ (congrArg₂ max ?_ (congrArg₂ max ?_ (congrArg₂ max ?_ (congrArg₂ max ?_
    (congrArg₂ max ?_ (congrArg₂ max ?_ ?_))))))
  · exact congrArg (fun i : Fin 128 => x (ix2 i a)) (Fin.ext (Nat.zero_add _).symm)
  all_goals exact congrArg (fun i : Fin 128 => x (ix2 i a)) (Fin.ext (congrArg (· + q.val) (by decide)))

theorem ofBits_bot : Ideal.ofBits .f32 0xFF800000#32 = ⊥ := by
  have h : (BitVec.extractLsb' 23 8 0xFF800000#32).toNat = 255
    ∧ (BitVec.extractLsb' 0 23 0xFF800000#32).toNat = 0
    ∧ (BitVec.extractLsb' 31 1 0xFF800000#32 == 1#1) = true := by decide +kernel
  unfold Ideal.ofBits Ideal.ieee
  simp only [h.1, h.2.1, h.2.2]
  norm_num

theorem sup_runs (f : Fin 128 → EReal) :
    ((Finset.univ : Finset (Fin 16)).sup fun q => (Finset.univ : Finset (Fin 8)).sup fun n =>
      f ⟨16 * n.val + q.val, by omega⟩) = (Finset.univ : Finset (Fin 128)).sup f := by
  apply le_antisymm
  · exact Finset.sup_le fun q _ => Finset.sup_le fun n _ => Finset.le_sup (Finset.mem_univ _)
  · refine Finset.sup_le fun k _ => ?_
    let q : Fin 16 := ⟨k.val % 16, by omega⟩
    let n : Fin 8 := ⟨k.val / 16, by omega⟩
    have hk : k = ⟨16 * n.val + q.val, by omega⟩ := Fin.ext (by show k.val = 16 * (k.val / 16) + k.val % 16; omega)
    rw [hk]
    exact (Finset.le_sup (f := fun n : Fin 8 => f ⟨16 * n.val + q.val, by omega⟩) (Finset.mem_univ n)).trans
      (Finset.le_sup (f := fun q : Fin 16 => (Finset.univ : Finset (Fin 8)).sup fun n => f ⟨16 * n.val + q.val, by omega⟩)
        (Finset.mem_univ q))

theorem fold_max {n : ℕ} (f : Fin n → EReal) :
    (Finset.univ : Finset (Fin n)).fold max (Ideal.ofBits .f32 0xFF800000#32) f = (Finset.univ : Finset (Fin n)).sup f := by
  rw [ofBits_bot]
  rfl

theorem ratioX_apply (x : Vec Ideal S128x128 .bf16) (a : Fin 128) :
    ratioX x (ix2 (0 : Fin 1) a) = ratio fun k => x (ix2 a k) := by
  unfold ratioX
  pointwise
  refine congrArg (· * _) ((fold_max _).trans ?_)
  simp only [max8_apply]
  refine (sup_runs fun k => absf (xT x) (ix2 k a)).trans ?_
  refine Finset.sup_congr rfl fun k _ => ?_
  show max (xT x (ix2 k a)) (-xT x (ix2 k a)) = _
  rw [xT_apply]

theorem ratioC_apply (x : FVec Ideal S128x128 .f32) (a : Fin 128) :
    ratioC x (ix2 (0 : Fin 1) a) = ratio fun k => x (ix2 k a) := by
  unfold ratioC
  pointwise
  exact congrArg (· * _) (fold_max _)

theorem codesX_apply (x : Vec Ideal S128x128 .bf16) (k a : Fin 128) :
    codesX x (ix2 k a) = clip (x (ix2 a k) * kInv (ratio fun k => x (ix2 a k))) := by
  unfold codesX
  pointwise
  simp only [full_apply, invV_apply, ratioX_apply, xT_apply]
  rfl

theorem xsPay_apply (x : Vec Ideal S128x128 .bf16) (a : Fin 128) :
    xsPay x (ix3 (0 : Fin 1) (0 : Fin 1) a) = kScale (ratio fun k => x (ix2 a k)) := by
  unfold xsPay
  pointwise
  simp only [scaleV_apply, ratioX_apply]

theorem xdPay_apply (x : Vec Ideal S128x128 .bf16) (k a : Fin 128) :
    xdPay x (ix2 k a) = clip (x (ix2 a k) * kInv (ratio fun k => x (ix2 a k))) * kScale (ratio fun k => x (ix2 a k)) := by
  unfold xdPay
  pointwise
  simp only [full_apply, scaleV_apply, ratioX_apply, codesX_apply]

theorem xcPay_apply (x : Vec Ideal S128x128 .bf16) (k a : Fin 128) :
    xcPay x (ix2 a k) = clip (x (ix2 a k) * kInv (ratio fun k => x (ix2 a k))) := by
  unfold xcPay
  pointwise
  simp only [codesX_apply]

theorem wdPay_apply (s : EReal) (w : Vec Ideal S128x128 .fp8e4m3) (a k : Fin 128) :
    wdPay (F := Ideal) s w (ix2 a k) = w (ix2 a k) * s := by
  unfold wdPay
  pointwise

theorem wdPay64_apply (s : EReal) (w : Vec Ideal S64x128 .fp8e4m3) (a : Fin 64) (k : Fin 128) :
    wdPay64 (F := Ideal) s w (ix2 a k) = w (ix2 a k) * s := by
  unfold wdPay64
  pointwise

theorem gbPay_apply (g : Vec Ideal S1x512 .f32) (o : Fin 512) (k : Fin 128) :
    gbPay g (ix2 o k) = g (ix2 (0 : Fin 1) o) := by
  unfold gbPay
  pointwise

theorem kpePay_apply (y : Vec Ideal S64x512 .f32) (a : Fin 64) (r : Fin 512) :
    kpePay y (ix3 (0 : Fin 1) a r) = y (ix2 a r) := by
  unfold kpePay
  pointwise

theorem csPay_apply (n : FVec Ideal S128x128 .f32) (a : Fin 128) :
    csPay n (ix3 (0 : Fin 1) (0 : Fin 1) a) = kScale (ratio fun k => n (ix2 k a)) := by
  unfold csPay
  pointwise
  simp only [scaleV_apply, ratioC_apply]

theorem ccPay_apply (n : FVec Ideal S128x128 .f32) (k a : Fin 128) :
    ccPay n (ix2 a k) = clip (n (ix2 k a) * kInv (ratio fun k => n (ix2 k a))) := by
  unfold ccPay
  pointwise
  simp only [invV_apply, ratioC_apply]
  rfl

theorem yPay_apply (w : Vec Ideal S576x2048 .bf16) (x : Vec Ideal S2048x512 .bf16) (o : Fin 576) (r : Fin 512) :
    yPay w x (ix2 o r) = ∑ h : Fin 2048, w (ix2 o h) * x (ix2 h r) := by
  unfold yPay
  pointwise

theorem rV_apply (sq : FVec Ideal S8x128 .f32) (a : Fin 128) :
    rV sq (ix2 (0 : Fin 1) a) = Ideal.rsqrt ((∑ k : Fin 8, sq (ix2 k a)) * Ideal.ofBits .f32 0x3B000000#32
      + Ideal.ofBits .f32 0x358637BD#32) := by
  unfold rV
  pointwise

theorem cn_apply (y g : Vec Ideal S128x128 .f32) (r : FVec Ideal S1x128 .f32) (k a : Fin 128) :
    cn y g r (ix2 k a) = y (ix2 k a) * r (ix2 (0 : Fin 1) a) * g (ix2 k a) := by
  unfold cn
  pointwise

end Cert.KernelIdeal.Site

end
-- ==== Proof.BlockAt.lean ====
/- The blocks one grid point leaves, at an index, over the extended reals: each as a function of one row of the input. -/
module

public import proofs.«01_k».proof.Proof.Blocks
public import proofs.«01_k».proof.Proof.Tile

@[expose] public section

set_option maxRecDepth 16384

noncomputable section

namespace Cert.KernelIdeal.Site

open Idealize.ShloMosaic Idealize.ShloMosaic.TcCoe Cert.KernelIdeal.Gen Cert.Scale

/-- The `g`-th group of a row. -/
def grp {N : ℕ} (f : Fin N → EReal) (g : ℕ) (hg : 128 * g + 128 ≤ N) (k : Fin 128) : EReal := f ⟨128 * g + k.val, by omega⟩

/-- The scale of a row's group. -/
def scaleRow {N : ℕ} (f : Fin N → EReal) (g : ℕ) (hg : 128 * g + 128 ≤ N) : EReal := kScale (ratio (grp f g hg))

/-- The inverse of the scale of a row's group. -/
def invRow {N : ℕ} (f : Fin N → EReal) (g : ℕ) (hg : 128 * g + 128 ≤ N) : EReal := kInv (ratio (grp f g hg))

/-- The codes of a row. -/
def codeRow {N : ℕ} (hN : N % 128 = 0) (f : Fin N → EReal) (h : Fin N) : EReal :=
  clip (f h * invRow f (h.val / 128) (by omega))

/-- A row dequantised. -/
def deqRow {N : ℕ} (hN : N % 128 = 0) (f : Fin N → EReal) (h : Fin N) : EReal :=
  codeRow hN f h * scaleRow f (h.val / 128) (by omega)

/-- A row of the product normalised, with the norm's factors. -/
def normRow (y : Fin 576 → EReal) (gm : Fin 512 → EReal) (o : Fin 512) : EReal :=
  y ⟨o.val, by omega⟩ * Ideal.rsqrt ((∑ k : Fin 512, y ⟨k.val, by omega⟩ * y ⟨k.val, by omega⟩) * Ideal.ofBits .f32 0x3B000000#32
    + Ideal.ofBits .f32 0x358637BD#32) * gm o

theorem grp_congr {N : ℕ} (f : Fin N → EReal) {g g' : ℕ} (e : g = g') (hg : 128 * g + 128 ≤ N) (hg' : 128 * g' + 128 ≤ N) :
    grp f g hg = grp f g' hg' := by
  subst e
  rfl

theorem codeRow_at {N : ℕ} (hN : N % 128 = 0) (f : Fin N → EReal) (g : ℕ) (hg : 128 * g + 128 ≤ N) (b : Fin 128) :
    codeRow hN f ⟨128 * g + b.val, by omega⟩ = clip (f ⟨128 * g + b.val, by omega⟩ * kInv (ratio (grp f g hg))) := by
  have e : (128 * g + b.val) / 128 = g := by omega
  simp only [codeRow, invRow]
  rw [grp_congr f e _ hg]

theorem deqRow_at {N : ℕ} (hN : N % 128 = 0) (f : Fin N → EReal) (g : ℕ) (hg : 128 * g + 128 ≤ N) (b : Fin 128) :
    deqRow hN f ⟨128 * g + b.val, by omega⟩
      = clip (f ⟨128 * g + b.val, by omega⟩ * kInv (ratio (grp f g hg))) * kScale (ratio (grp f g hg)) := by
  have e : (128 * g + b.val) / 128 = g := by omega
  simp only [deqRow, codeRow, invRow, scaleRow]
  rw [grp_congr f e _ hg]

/-- A list of stores whose payloads are one function of the index stored at, and which covers: what it leaves is that function. -/
theorem canon_all {S : Shape} {e : EltTy} (G : S.Idx → Elt Ideal e) (L : List (View.Piece (Elt Ideal) S e))
    (h : ∀ p ∈ L, ∀ x : p.1.shape.Idx, p.2 x = G (p.1.emb x)) (hc : ∀ y, ∃ p ∈ L, ∃ x, p.1.emb x = y) : View.canon L = G := by
  funext y
  obtain ⟨p, hp, x, rfl⟩ := hc y
  exact View.canon_apply_of_pieces G L h _ ⟨p, hp, p.1.idx_mem x⟩

theorem canon_rev {S : Shape} {e : EltTy} {n : ℕ} (R : Fin n → Rect S) (P : ∀ p, (R p).shape.Idx → Elt Ideal e)
    (G : S.Idx → Elt Ideal e) (h : ∀ p x, P p x = G ((R p).emb x)) (hc : ∀ y, ∃ p x, (R p).emb x = y) :
    View.canon (List.ofFn fun p : Fin n => (⟨R p.rev, P p.rev⟩ : View.Piece (Elt Ideal) S e)) = G := by
  refine canon_all G _ ?_ ?_
  · intro q hq
    obtain ⟨p, rfl⟩ := List.mem_ofFn.mp hq
    exact h p.rev
  · intro y
    obtain ⟨p, x, hx⟩ := hc y
    refine ⟨_, List.mem_ofFn.mpr ⟨p.rev, rfl⟩, ?_⟩
    rw [← hx]
    dsimp only
    rw [Fin.rev_rev]
    exact ⟨x, rfl⟩

theorem xR_emb (p : Fin 64) (a b : Fin 128) : (xR p).emb (ix2 a b)
    = ix2 (⟨128 * (p.val / 16) + a.val, by omega⟩ : Fin 512) (⟨128 * (p.val % 16) + b.val, by omega⟩ : Fin 2048) := by
  funext i
  fin_cases i <;> exact Fin.ext (congrArg (_ + ·) (Nat.one_mul _))

theorem xdR_emb (p : Fin 64) (a b : Fin 128) : (xdR p).emb (ix2 a b)
    = ix2 (⟨128 * (p.val % 16) + a.val, by omega⟩ : Fin 2048) (⟨128 * (p.val / 16) + b.val, by omega⟩ : Fin 512) := by
  funext i
  fin_cases i <;> exact Fin.ext (congrArg (_ + ·) (Nat.one_mul _))

theorem xsR_emb (p : Fin 64) (u v : Fin 1) (a : Fin 128) : (xsR p).emb (ix3 u v a)
    = ix3 (0 : Fin 1) (⟨p.val % 16, by omega⟩ : Fin 16) (⟨128 * (p.val / 16) + a.val, by omega⟩ : Fin 512) := by
  obtain rfl : u = 0 := Subsingleton.elim _ _
  obtain rfl : v = 0 := Subsingleton.elim _ _
  funext i
  fin_cases i <;> exact Fin.ext (congrArg (_ + ·) (Nat.one_mul _))

theorem tiles_apply (x0 : Vec Ideal S512x2048 .bf16) (p : Fin 64) (a b : Fin 128) : tiles x0 p (ix2 a b)
    = x0 (ix2 (⟨128 * (p.val / 16) + a.val, by omega⟩ : Fin 512) (⟨128 * (p.val % 16) + b.val, by omega⟩ : Fin 2048)) :=
  congrArg x0 (xR_emb p a b)

/-- The codes of an input block, row by row. -/
def xcG (x0 : Vec Ideal S512x2048 .bf16) : Vec Ideal S512x2048 .fp8e4m3 :=
  fun j => codeRow (N := 2048) rfl (fun h => x0 (ix2 (j 0 : Fin 512) h)) (j 1)

/-- An input block dequantised, column by column. -/
def xdG (x0 : Vec Ideal S512x2048 .bf16) : Vec Ideal S2048x512 .bf16 :=
  fun j => deqRow (N := 2048) rfl (fun h => x0 (ix2 (j 1 : Fin 512) h)) (j 0)

/-- The scales of an input block. -/
def xsG (x0 : Vec Ideal S512x2048 .bf16) : Vec Ideal S1x16x512 .f32 := fun j =>
  scaleRow (N := 2048) (fun h => x0 (ix2 (j 2 : Fin 512) h)) (j 1 : Fin 16).val
    (by have h : (j 1 : Fin 16).val < 16 := (j 1 : Fin 16).isLt; omega)

theorem xcB_eq (x0 : Vec Ideal S512x2048 .bf16) : xcB x0 = xcG x0 := by
  refine canon_rev (S := S512x2048) (e := .fp8e4m3) (n := 64) xR (fun p => xcPay (tiles x0 p)) (xcG x0) ?_ ?_
  · intro p x
    obtain ⟨a, b, rfl⟩ : ∃ a b : Fin 128, x = ix2 a b := ⟨x 0, x 1, eq_ix2 x⟩
    rw [xR_emb]
    refine (xcPay_apply _ _ _).trans ?_
    simp only [tiles_apply]
    exact (codeRow_at (N := 2048) rfl (fun h => x0 (ix2 (⟨128 * (p.val / 16) + a.val, by omega⟩ : Fin 512) h)) (p.val % 16)
      (by omega) b).symm
  · intro y
    obtain ⟨r, h, rfl⟩ : ∃ (r : Fin 512) (h : Fin 2048), y = ix2 r h := ⟨y 0, y 1, eq_ix2 y⟩
    refine ⟨⟨16 * (r.val / 128) + h.val / 128, by omega⟩, ix2 (⟨r.val % 128, by omega⟩ : Fin 128) (⟨h.val % 128, by omega⟩ : Fin 128), ?_⟩
    rw [xR_emb]
    congr 1 <;> exact Fin.ext (by dsimp only; omega)

theorem xdB_eq (x0 : Vec Ideal S512x2048 .bf16) : xdB x0 = xdG x0 := by
  refine canon_rev (S := S2048x512) (e := .bf16) (n := 64) xdR (fun p => xdPay (tiles x0 p)) (xdG x0) ?_ ?_
  · intro p x
    obtain ⟨b, a, rfl⟩ : ∃ a b : Fin 128, x = ix2 a b := ⟨x 0, x 1, eq_ix2 x⟩
    rw [xdR_emb]
    refine (xdPay_apply _ _ _).trans ?_
    simp only [tiles_apply]
    exact (deqRow_at (N := 2048) rfl (fun h => x0 (ix2 (⟨128 * (p.val / 16) + a.val, by omega⟩ : Fin 512) h)) (p.val % 16)
      (by omega) b).symm
  · intro y
    obtain ⟨h, r, rfl⟩ : ∃ (h : Fin 2048) (r : Fin 512), y = ix2 h r := ⟨y 0, y 1, eq_ix2 y⟩
    refine ⟨⟨16 * (r.val / 128) + h.val / 128, by omega⟩, ix2 (⟨h.val % 128, by omega⟩ : Fin 128) (⟨r.val % 128, by omega⟩ : Fin 128), ?_⟩
    rw [xdR_emb]
    congr 1 <;> exact Fin.ext (by dsimp only; omega)

theorem xsB_eq (x0 : Vec Ideal S512x2048 .bf16) : xsB x0 = xsG x0 := by
  refine canon_rev (S := S1x16x512) (e := .f32) (n := 64) xsR (fun p => xsPay (tiles x0 p)) (xsG x0) ?_ ?_
  · intro p x
    obtain ⟨u, v, a, rfl⟩ : ∃ (u v : Fin 1) (a : Fin 128), x = ix3 u v a := ⟨x 0, x 1, x 2, eq_ix3 x⟩
    rw [xsR_emb]
    obtain rfl : u = 0 := Subsingleton.elim _ _
    obtain rfl : v = 0 := Subsingleton.elim _ _
    refine (xsPay_apply _ _).trans ?_
    simp only [tiles_apply]
    rfl
  · intro y
    obtain ⟨u, g, r, rfl⟩ : ∃ (u : Fin 1) (g : Fin 16) (r : Fin 512), y = ix3 u g r := ⟨y 0, y 1, y 2, eq_ix3 y⟩
    refine ⟨⟨16 * (r.val / 128) + g.val, by omega⟩, ix3 (0 : Fin 1) (0 : Fin 1) (⟨r.val % 128, by omega⟩ : Fin 128), ?_⟩
    rw [xsR_emb]
    obtain rfl : u = 0 := Subsingleton.elim _ _
    congr 1 <;> exact Fin.ext (by dsimp only; omega)

/-- The dequantised weights. -/
def wdG (x1 : Vec Ideal S576x2048 .fp8e4m3) (x2 : Vec Ideal S5x16 .f32) (o : Fin 576) (h : Fin 2048) : EReal :=
  x1 (ix2 o h) * x2 (ix2 (⟨o.val / 128, by omega⟩ : Fin 5) (⟨h.val / 128, by omega⟩ : Fin 16))

theorem wR_emb (p : Fin 64) (a b : Fin 128) : (wR p).emb (ix2 a b)
    = ix2 (⟨128 * (p.val / 16) + a.val, by omega⟩ : Fin 576) (⟨128 * (p.val % 16) + b.val, by omega⟩ : Fin 2048) := by
  funext i
  fin_cases i <;> exact Fin.ext (congrArg (_ + ·) (Nat.one_mul _))

theorem wR64_emb (p : Fin 16) (a : Fin 64) (b : Fin 128) : (wR64 p).emb (ix2 a b)
    = ix2 (⟨512 + a.val, by omega⟩ : Fin 576) (⟨128 * p.val + b.val, by omega⟩ : Fin 2048) := by
  funext i
  fin_cases i <;> exact Fin.ext (congrArg (_ + ·) (Nat.one_mul _))

theorem ws_apply (x2 : Vec Ideal S5x16 .f32) (o : Fin 5) (k : Fin 16) (i : (wsR o k).shape.Idx) :
    View.ld x2 (wsR o k) i = x2 (ix2 o k) := by
  have h0 : (i 0).val = 0 := by have h : (i 0).val < 1 := (i 0).isLt; omega
  have h1 : (i 1).val = 0 := by have h : (i 1).val < 1 := (i 1).isLt; omega
  refine congrArg x2 ?_
  funext a
  fin_cases a
  · exact Fin.ext (by show o.val + 1 * (i 0).val = o.val; omega)
  · exact Fin.ext (by show k.val + 1 * (i 1).val = k.val; omega)

theorem wd_piece (x1 : Vec Ideal S576x2048 .fp8e4m3) (x2 : Vec Ideal S5x16 .f32) (p : Fin 64) (o : Fin 5) (ho : o.val = p.val / 16)
    (k : Fin 16) (hk : k.val = p.val % 16) (i : (wsR o k).shape.Idx) (x : S128x128.Idx) :
    wdPay (F := Ideal) (View.ld x2 (wsR o k) i) (View.ld x1 (wR p)) x
      = (fun j : S576x2048.Idx => wdG x1 x2 (j 0) (j 1)) ((wR p).emb x) := by
  obtain ⟨a, b, rfl⟩ : ∃ (a : Fin 128) (b : Fin 128), x = ix2 a b := ⟨x 0, x 1, eq_ix2 x⟩
  rw [wR_emb, ws_apply]
  refine (wdPay_apply _ _ _ _).trans ?_
  refine congrArg₂ (· * ·) (congrArg x1 (wR_emb p a b)) (congrArg x2 ?_)
  congr 1
  · exact Fin.ext (by show o.val = (128 * (p.val / 16) + a.val) / 128; omega)
  · exact Fin.ext (by show k.val = (128 * (p.val % 16) + b.val) / 128; omega)

theorem wd_piece64 (x1 : Vec Ideal S576x2048 .fp8e4m3) (x2 : Vec Ideal S5x16 .f32) (p : Fin 16)
    (i : (wsR 4 p).shape.Idx) (x : S64x128.Idx) :
    wdPay64 (F := Ideal) (View.ld x2 (wsR 4 p) i) (View.ld x1 (wR64 p)) x
      = (fun j : S576x2048.Idx => wdG x1 x2 (j 0) (j 1)) ((wR64 p).emb x) := by
  obtain ⟨a, b, rfl⟩ : ∃ (a : Fin 64) (b : Fin 128), x = ix2 a b := ⟨x 0, x 1, eq_ix2 x⟩
  rw [wR64_emb, ws_apply]
  refine (wdPay64_apply _ _ _ _).trans ?_
  refine congrArg₂ (· * ·) (congrArg x1 (wR64_emb p a b)) (congrArg x2 ?_)
  congr 1
  · exact Fin.ext (by show 4 = (512 + a.val) / 128; omega)
  · exact Fin.ext (by show p.val = (128 * p.val + b.val) / 128; omega)

theorem wdB_eq (x1 : Vec Ideal S576x2048 .fp8e4m3) (x2 : Vec Ideal S5x16 .f32) :
    wdB x1 x2 = fun j : S576x2048.Idx => wdG x1 x2 (j 0) (j 1) := by
  refine canon_all (S := S576x2048) (e := .bf16) (fun j : S576x2048.Idx => wdG x1 x2 (j 0) (j 1)) _ ?_ ?_
  · intro q hq
    rcases List.mem_append.mp hq with hq | hq
    · obtain ⟨p, rfl⟩ := List.mem_ofFn.mp hq
      exact wd_piece64 x1 x2 p.rev _
    · obtain ⟨p, rfl⟩ := List.mem_ofFn.mp hq
      exact wd_piece x1 x2 p.rev _ rfl _ rfl _
  · intro y
    obtain ⟨o, h, rfl⟩ : ∃ (o : Fin 576) (h : Fin 2048), y = ix2 o h := ⟨y 0, y 1, eq_ix2 y⟩
    by_cases ho : o.val < 512
    · let p : Fin 64 := ⟨16 * (o.val / 128) + h.val / 128, by omega⟩
      refine ⟨_, List.mem_append.mpr (.inr (List.mem_ofFn.mpr ⟨p.rev, rfl⟩)),
        ix2 (⟨o.val % 128, by omega⟩ : Fin 128) (⟨h.val % 128, by omega⟩ : Fin 128), (wR_emb p.rev.rev _ _).trans ?_⟩
      have hp : p.rev.rev.val = 16 * (o.val / 128) + h.val / 128 := by rw [Fin.rev_rev]
      congr 1 <;> exact Fin.ext (by dsimp only; omega)
    · let p : Fin 16 := ⟨h.val / 128, by omega⟩
      refine ⟨_, List.mem_append.mpr (.inl (List.mem_ofFn.mpr ⟨p.rev, rfl⟩)),
        ix2 (⟨o.val - 512, by omega⟩ : Fin 64) (⟨h.val % 128, by omega⟩ : Fin 128), (wR64_emb p.rev.rev _ _).trans ?_⟩
      have hp : p.rev.rev.val = h.val / 128 := by rw [Fin.rev_rev]
      congr 1 <;> exact Fin.ext (by dsimp only; omega)

theorem ld_full {S : Shape} {e : EltTy} (off : Fin S.rank → ℕ) (inb : ∀ a, off a + S.size a ≤ S.size a) (h : ∀ a, off a = 0)
    (w : Vec Ideal S e) : View.ld w (Rect.unit off S.size inb) = w := by
  funext j
  refine congrArg w (funext fun a => Fin.ext ?_)
  show off a + 1 * (j a).val = (j a).val
  rw [h a]
  omega

theorem gbB_apply (x3 : Vec Ideal S1x512 .f32) (o : Fin 512) (k : Fin 128) : gbB x3 (ix2 o k) = x3 (ix2 (0 : Fin 1) o) := by
  unfold gbB gbL
  rw [ld_full _ _ (by decide), View.canon_cons_unit_lit _ _ _ (by decide), gbPay_apply]

theorem yB_apply (w : Vec Ideal S576x2048 .bf16) (x : Vec Ideal S2048x512 .bf16) (o : Fin 576) (r : Fin 512) :
    yB w x (ix2 o r) = ∑ h : Fin 2048, w (ix2 o h) * x (ix2 h r) := by
  unfold yB yL
  rw [ld_full _ _ (by decide), ld_full _ _ (by decide), View.canon_cons_unit_lit _ _ _ (by decide), yPay_apply]

theorem kpeB_apply (y : Vec Ideal S576x512 .f32) (a : Fin 64) (r : Fin 512) :
    kpeB y (ix3 (0 : Fin 1) a r) = y (ix2 (⟨512 + a.val, by omega⟩ : Fin 576) r) := by
  unfold kpeB kpeL
  rw [View.canon_cons_unit_lit _ _ _ (by decide), kpePay_apply]
  refine congrArg y (funext fun i => ?_)
  fin_cases i
  · exact Fin.ext (congrArg (_ + ·) (Nat.one_mul _))
  · exact Fin.ext (by show 0 + 1 * r.val = r.val; omega)

theorem sqSum_apply (f : Fin 64 → Vec Ideal S8x128 .f32) (j : S8x128.Idx) : ∀ (n : ℕ) (h : n ≤ 64),
    sqSum f n h j = ∑ k : Fin n, f ⟨k.val, by omega⟩ j * f ⟨k.val, by omega⟩ j
  | 0, _ => by
    show Ideal.ofBits .f32 0x00000000#32 = _
    rw [Fin.sum_univ_zero]
    exact T_zero
  | n + 1, h => by
    rw [Fin.sum_univ_castSucc]
    exact congrArg (· + _) (sqSum_apply f j n (Nat.le_of_succ_le h))

theorem y8R_emb (t : Fin 4) (n : Fin 64) (i : Fin 8) (a : Fin 128) : (y8R t n).emb (ix2 i a)
    = ix2 (⟨8 * n.val + i.val, by omega⟩ : Fin 576) (⟨128 * t.val + a.val, by omega⟩ : Fin 512) := by
  funext i
  fin_cases i <;> exact Fin.ext (congrArg (_ + ·) (Nat.one_mul _))

theorem yR_emb (p : Fin 16) (k a : Fin 128) : (yR p).emb (ix2 k a)
    = ix2 (⟨128 * (p.val % 4) + k.val, by omega⟩ : Fin 576) (⟨128 * (p.val / 4) + a.val, by omega⟩ : Fin 512) := by
  funext i
  fin_cases i <;> exact Fin.ext (congrArg (_ + ·) (Nat.one_mul _))

theorem gR_emb (p : Fin 16) (k a : Fin 128) : (gR p).emb (ix2 k a)
    = ix2 (⟨128 * (p.val % 4) + k.val, by omega⟩ : Fin 512) a := by
  funext i
  fin_cases i
  · exact Fin.ext (congrArg (_ + ·) (Nat.one_mul _))
  · exact Fin.ext (by show 0 + 1 * a.val = a.val; omega)

theorem ccR_emb (p : Fin 16) (a k : Fin 128) : (ccR p).emb (ix2 a k)
    = ix2 (⟨128 * (p.val / 4) + a.val, by omega⟩ : Fin 512) (⟨128 * (p.val % 4) + k.val, by omega⟩ : Fin 512) := by
  funext i
  fin_cases i <;> exact Fin.ext (congrArg (_ + ·) (Nat.one_mul _))

theorem csR_emb (p : Fin 16) (u v : Fin 1) (a : Fin 128) : (csR p).emb (ix3 u v a)
    = ix3 (0 : Fin 1) (⟨p.val % 4, by omega⟩ : Fin 4) (⟨128 * (p.val / 4) + a.val, by omega⟩ : Fin 512) := by
  obtain rfl : u = 0 := Subsingleton.elim _ _
  obtain rfl : v = 0 := Subsingleton.elim _ _
  funext i
  fin_cases i <;> exact Fin.ext (congrArg (_ + ·) (Nat.one_mul _))

/-- A column of the product, as a row of the result. -/
def ycol (y : Vec Ideal S576x512 .f32) (r : Fin 512) (o : Fin 576) : EReal := y (ix2 o r)

/-- The normalised rows' block at an index. -/
theorem cnP_apply (y : Vec Ideal S576x512 .f32) (g : Vec Ideal S512x128 .f32) (gm : Fin 512 → EReal)
    (hg : ∀ o k, g (ix2 o k) = gm o) (p : Fin 16) (k a : Fin 128) :
    cnP (fun t n => View.ld y (y8R t n)) (fun p => View.ld y (yR p)) (fun p => View.ld g (gR p)) p (ix2 k a)
      = normRow (ycol y ⟨128 * (p.val / 4) + a.val, by omega⟩) gm ⟨128 * (p.val % 4) + k.val, by omega⟩ := by
  refine (cn_apply _ _ _ k a).trans ?_
  unfold normRow
  refine congrArg₂ (· * ·) (congrArg₂ (· * ·) (congrArg y (yR_emb p k a)) ((rV_apply _ a).trans (congrArg (fun z : EReal =>
    Ideal.rsqrt (z * Ideal.ofBits .f32 0x3B000000#32 + Ideal.ofBits .f32 0x358637BD#32)) ?_))) ?_
  · refine (Finset.sum_congr rfl fun i _ => sqSum_apply _ (ix2 i a) 64 le_rfl).trans (Finset.sum_comm.trans ?_)
    refine Fin.sum_mul_add_congr (S := 64) (n := 8) fun n i hl => ?_
    have e : View.ld y (y8R ⟨p.val / 4, by omega⟩ n) (ix2 i a)
        = ycol y ⟨128 * (p.val / 4) + a.val, by omega⟩ ⟨n.val * 8 + i.val, by omega⟩ := by
      refine (congrArg y (y8R_emb _ n i a)).trans ?_
      unfold ycol
      congr 2
      exact Fin.ext (by dsimp only; omega)
    exact congrArg₂ (· * ·) e e
  · exact (congrArg g (gR_emb p k a)).trans (hg _ _)

/-- The codes of the normalised rows. -/
def ccG (y : Vec Ideal S576x512 .f32) (gm : Fin 512 → EReal) : Vec Ideal S512x512 .fp8e4m3 :=
  fun j => codeRow (N := 512) rfl (normRow (ycol y (j 0)) gm) (j 1)

/-- Their scales. -/
def csG (y : Vec Ideal S576x512 .f32) (gm : Fin 512 → EReal) : Vec Ideal S1x4x512 .f32 := fun j =>
  scaleRow (N := 512) (normRow (ycol y (j 2)) gm) (j 1 : Fin 4).val
    (by have h : (j 1 : Fin 4).val < 4 := (j 1 : Fin 4).isLt; omega)

theorem ccB_eq (y : Vec Ideal S576x512 .f32) (g : Vec Ideal S512x128 .f32) (gm : Fin 512 → EReal)
    (hg : ∀ o k, g (ix2 o k) = gm o) : ccB y g = ccG y gm := by
  refine canon_rev (S := S512x512) (e := .fp8e4m3) (n := 16) ccR (fun p => ccPay (cnP (fun t n => View.ld y (y8R t n))
    (fun p => View.ld y (yR p)) (fun p => View.ld g (gR p)) p)) (ccG y gm) ?_ ?_
  · intro p x
    obtain ⟨a, b, rfl⟩ : ∃ a b : Fin 128, x = ix2 a b := ⟨x 0, x 1, eq_ix2 x⟩
    rw [ccR_emb]
    refine (ccPay_apply _ _ _).trans ?_
    simp only [cnP_apply y g gm hg]
    exact (codeRow_at (N := 512) rfl (normRow (ycol y ⟨128 * (p.val / 4) + a.val, by omega⟩) gm) (p.val % 4)
      (by omega) b).symm
  · intro y
    obtain ⟨r, h, rfl⟩ : ∃ (r : Fin 512) (h : Fin 512), y = ix2 r h := ⟨y 0, y 1, eq_ix2 y⟩
    refine ⟨⟨4 * (r.val / 128) + h.val / 128, by omega⟩, ix2 (⟨r.val % 128, by omega⟩ : Fin 128) (⟨h.val % 128, by omega⟩ : Fin 128), ?_⟩
    rw [ccR_emb]
    congr 1 <;> exact Fin.ext (by dsimp only; omega)

theorem csB_eq (y : Vec Ideal S576x512 .f32) (g : Vec Ideal S512x128 .f32) (gm : Fin 512 → EReal)
    (hg : ∀ o k, g (ix2 o k) = gm o) : csB y g = csG y gm := by
  refine canon_rev (S := S1x4x512) (e := .f32) (n := 16) csR (fun p => csPay (cnP (fun t n => View.ld y (y8R t n))
    (fun p => View.ld y (yR p)) (fun p => View.ld g (gR p)) p)) (csG y gm) ?_ ?_
  · intro p x
    obtain ⟨u, v, a, rfl⟩ : ∃ (u v : Fin 1) (a : Fin 128), x = ix3 u v a := ⟨x 0, x 1, x 2, eq_ix3 x⟩
    rw [csR_emb]
    obtain rfl : u = 0 := Subsingleton.elim _ _
    obtain rfl : v = 0 := Subsingleton.elim _ _
    refine (csPay_apply _ _).trans ?_
    simp only [cnP_apply y g gm hg]
    rfl
  · intro y
    obtain ⟨u, g, r, rfl⟩ : ∃ (u : Fin 1) (g : Fin 4) (r : Fin 512), y = ix3 u g r := ⟨y 0, y 1, y 2, eq_ix3 y⟩
    refine ⟨⟨4 * (r.val / 128) + g.val, by omega⟩, ix3 (0 : Fin 1) (0 : Fin 1) (⟨r.val % 128, by omega⟩ : Fin 128), ?_⟩
    rw [csR_emb]
    obtain rfl : u = 0 := Subsingleton.elim _ _
    congr 1 <;> exact Fin.ext (by dsimp only; omega)

end Cert.KernelIdeal.Site

end
-- ==== Proof.KernelValue.lean ====
/- The kernel's results over the extended reals, as functions of its arguments: what each array holds after the run. -/
module

public import proofs.«01_k».proof.Proof.AtPoint
public import proofs.«01_k».proof.Proof.BlockAt
public import Idealize.ShloMosaic.Lib.Pipeline.FrameTail
public import Idealize.ShloMosaic.Lib.Claim

@[expose] public section

set_option maxRecDepth 16384

noncomputable section

namespace Cert.KernelIdeal.Site

open Idealize.ShloMosaic Idealize.ShloMosaic.TcCoe Cert.KernelIdeal.Gen Cert.Scale

variable (m : (ℓ : Loc nD τ sig) → Buf (Elt Ideal) ℓ) (c : Dev nD)

/-- A row of the input: `R` counts the rows of all eight batches. -/
def xrow (X : Vec Ideal S8x4096x2048 .bf16) (R : ℕ) (hR : R < 32768) (h : Fin 2048) : EReal :=
  X (ix3 (⟨R / 4096, by omega⟩ : Fin 8) (⟨R % 4096, by omega⟩ : Fin 4096) h)

/-- A row of the product. -/
def yrow (x1 : Vec Ideal S576x2048 .fp8e4m3) (x2 : Vec Ideal S5x16 .f32) (f : Fin 2048 → EReal) (o : Fin 576) : EReal :=
  ∑ h : Fin 2048, wdG x1 x2 o h * deqRow (N := 2048) rfl f h

theorem idx : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val / 8, 0, t.val % 8]
    ∧ win0_6.index t = ![t.val / 8, 0, t.val % 8] ∧ win0_7.index t = ![t.val, 0]
    ∧ win0_8.index t = ![t.val / 8, 0, t.val % 8] :=
  (by decide +kernel : ∀ t : Fin grid0.N, _)

theorem V_v0 : V m c main_v0
    = shapeCast S32768x2048 (m ((c : Thread nD τ).loc main_arg0)) shapeCasts_S8x4096x2048_S32768x2048 := by
  show StableHlo.after hostOps0 (fun b => m (c, b)) (Proc.devRef .tc main_v0) = _
  after_results
  try rfl

theorem V_v1 : V m c main_v1 = shapeCast S1x512 (m ((c : Thread nD τ).loc main_arg3)) shapeCasts_S512_S1x512 := by
  show StableHlo.after hostOps0 (fun b => m (c, b)) (Proc.devRef .tc main_v1) = _
  after_results
  try rfl

theorem split0 (X : Vec Ideal S8x4096x2048 .bf16) (R : Fin 32768) (h : Fin 2048) :
    shapeCast S32768x2048 X shapeCasts_S8x4096x2048_S32768x2048 (ix2 R h)
      = X (ix3 (⟨R / 4096, by omega⟩ : Fin 8) (⟨R % 4096, by omega⟩ : Fin 4096) h) := by
  pointwise

theorem block0 (t : Fin cfg0.N) (r : Fin 512) (h : Fin 2048) (hR : 512 * t.val + r.val < 32768) :
    (iblk m c 0 t : Vec Ideal S512x2048 .bf16) (ix2 r h)
      = xrow (m ((c : Thread nD τ).loc main_arg0)) (512 * t.val + r.val) hR h := by
  have e : (iblk m c 0 t : Vec Ideal S512x2048 .bf16) (ix2 r h)
      = V m c main_v0 (ix2 (⟨512 * t.val + r.val, hR⟩ : Fin 32768) h) := by
    blk_ext! [iblk, idx t]
  rw [e, V_v0]
  exact split0 _ _ h

theorem block1 (t : Fin cfg0.N) : (iblk m c 1 t : Vec Ideal S576x2048 .fp8e4m3) = m ((c : Thread nD τ).loc main_arg1) := by
  blk_ext! [iblk, V_main_arg1, idx t]

theorem block2 (t : Fin cfg0.N) : (iblk m c 2 t : Vec Ideal S5x16 .f32) = m ((c : Thread nD τ).loc main_arg2) := by
  blk_ext! [iblk, V_main_arg2, idx t]

theorem block3 (t : Fin cfg0.N) (o : Fin 512) : (iblk m c 3 t : Vec Ideal S1x512 .f32) (ix2 (0 : Fin 1) o)
    = m ((c : Thread nD τ).loc main_arg3) (ix1 o) := by
  have e : (iblk m c 3 t : Vec Ideal S1x512 .f32) (ix2 (0 : Fin 1) o) = V m c main_v1 (ix2 (0 : Fin 1) o) := by
    blk_ext! [iblk, idx t]
  rw [e, V_v1]
  pointwise

/-- The norm's factors. -/
def gam (x3 : Vec Ideal S512 .f32) (o : Fin 512) : EReal := x3 (ix1 o)

theorem gbM_apply (o : Fin 512) (k : Fin 128) : gbM m c (ix2 o k) = gam (m ((c : Thread nD τ).loc main_arg3)) o := by
  unfold gbM
  rw [gbB_apply, block3]
  rfl

theorem yM_apply (t : Fin cfg0.N) (r : Fin 512) (hR : 512 * t.val + r.val < 32768) : ycol (yM m c t) r
    = yrow (m ((c : Thread nD τ).loc main_arg1)) (m ((c : Thread nD τ).loc main_arg2))
        (xrow (m ((c : Thread nD τ).loc main_arg0)) (512 * t.val + r.val) hR) := by
  funext o
  unfold ycol yM
  rw [yB_apply, xdB_eq]
  unfold wdM
  rw [wdB_eq, block1, block2]
  unfold yrow
  refine Finset.sum_congr rfl fun h _ => congrArg₂ (· * ·) rfl ?_
  unfold xdG
  exact congrArg (fun f => deqRow (N := 2048) rfl f h) (funext fun h => block0 m c t r h hR)

/-- The rows of the product that are normalised. -/
def nrow (R : ℕ) (hR : R < 32768) : Fin 512 → EReal :=
  normRow (yrow (m ((c : Thread nD τ).loc main_arg1)) (m ((c : Thread nD τ).loc main_arg2))
    (xrow (m ((c : Thread nD τ).loc main_arg0)) R hR)) (gam (m ((c : Thread nD τ).loc main_arg3)))

/-- The codes of the normalised rows. -/
def R4 : Vec Ideal S32768x512 .fp8e4m3 := fun j => codeRow (N := 512) rfl (nrow m c (j 0 : Fin 32768).val (j 0 : Fin 32768).isLt) (j 1)

theorem row_lt (b : Fin 8) (s : Fin 4096) : 4096 * b.val + s.val < 32768 := by omega

theorem group_le {n G : ℕ} (g : Fin n) (h : 128 * n ≤ G) : 128 * g.val + 128 ≤ G := by omega

/-- Their scales. -/
def R5 : Vec Ideal S8x4x4096 .f32 := fun j =>
  scaleRow (N := 512) (nrow m c (4096 * (j 0 : Fin 8).val + (j 2 : Fin 4096).val) (row_lt (j 0) (j 2))) (j 1 : Fin 4).val
    (group_le (n := 4) (j 1) (by decide))

/-- The rows past the norm's. -/
def R6 : Vec Ideal S8x64x4096 .bf16 := fun j =>
  yrow (m ((c : Thread nD τ).loc main_arg1)) (m ((c : Thread nD τ).loc main_arg2))
    (xrow (m ((c : Thread nD τ).loc main_arg0)) (4096 * (j 0 : Fin 8).val + (j 2 : Fin 4096).val) (row_lt (j 0) (j 2)))
    ⟨512 + (j 1 : Fin 64).val, (by have h : (j 1 : Fin 64).val < 64 := (j 1 : Fin 64).isLt; omega)⟩

/-- The codes of the input. -/
def R7 : Vec Ideal S32768x2048 .fp8e4m3 := fun j =>
  codeRow (N := 2048) rfl (xrow (m ((c : Thread nD τ).loc main_arg0)) (j 0 : Fin 32768).val (j 0 : Fin 32768).isLt) (j 1)

/-- Their scales. -/
def R8 : Vec Ideal S8x16x4096 .f32 := fun j =>
  scaleRow (N := 2048) (xrow (m ((c : Thread nD τ).loc main_arg0)) (4096 * (j 0 : Fin 8).val + (j 2 : Fin 4096).val)
    (row_lt (j 0) (j 2))) (j 1 : Fin 16).val (group_le (n := 16) (j 1) (by decide))

theorem xrow_congr (X : Vec Ideal S8x4096x2048 .bf16) {R R' : ℕ} (e : R = R') (hR : R < 32768) (hR' : R' < 32768) :
    xrow X R hR = xrow X R' hR' := by
  subst e
  rfl

theorem nrow_congr {R R' : ℕ} (e : R = R') (hR : R < 32768) (hR' : R' < 32768) : nrow m c R hR = nrow m c R' hR' := by
  subst e
  rfl

theorem row_eq (t : ℕ) (r : ℕ) : 512 * t + r = 4096 * (t / 8) + (512 * (t % 8) + r) := by omega

theorem xcG_at (x0 : Vec Ideal S512x2048 .bf16) (r : Fin 512) (h : Fin 2048) :
    xcG x0 (ix2 r h) = codeRow (N := 2048) rfl (fun h => x0 (ix2 r h)) h := rfl

theorem xsG_at (x0 : Vec Ideal S512x2048 .bf16) (u : Fin 1) (g : Fin 16) (r : Fin 512) :
    xsG x0 (ix3 u g r) = scaleRow (N := 2048) (fun h => x0 (ix2 r h)) g.val (group_le (n := 16) g (by decide)) := rfl

theorem ccG_at (y : Vec Ideal S576x512 .f32) (gm : Fin 512 → EReal) (r o : Fin 512) :
    ccG y gm (ix2 r o) = codeRow (N := 512) rfl (normRow (ycol y r) gm) o := rfl

theorem csG_at (y : Vec Ideal S576x512 .f32) (gm : Fin 512 → EReal) (u : Fin 1) (g : Fin 4) (r : Fin 512) :
    csG y gm (ix3 u g r) = scaleRow (N := 512) (normRow (ycol y r) gm) g.val (group_le (n := 4) g (by decide)) := rfl

theorem R4_at (R : Fin 32768) (o : Fin 512) : R4 m c (ix2 R o) = codeRow (N := 512) rfl (nrow m c R.val R.isLt) o := rfl

theorem R5_at (b : Fin 8) (g : Fin 4) (s : Fin 4096) : R5 m c (ix3 b g s)
    = scaleRow (N := 512) (nrow m c (4096 * b.val + s.val) (row_lt b s)) g.val (group_le (n := 4) g (by decide)) := rfl

theorem R6_at (b : Fin 8) (a : Fin 64) (s : Fin 4096) : R6 m c (ix3 b a s)
    = yrow (m ((c : Thread nD τ).loc main_arg1)) (m ((c : Thread nD τ).loc main_arg2))
      (xrow (m ((c : Thread nD τ).loc main_arg0)) (4096 * b.val + s.val) (row_lt b s)) ⟨512 + a.val, by omega⟩ := rfl

theorem R7_at (R : Fin 32768) (h : Fin 2048) : R7 m c (ix2 R h)
    = codeRow (N := 2048) rfl (xrow (m ((c : Thread nD τ).loc main_arg0)) R.val R.isLt) h := rfl

theorem R8_at (b : Fin 8) (g : Fin 16) (s : Fin 4096) : R8 m c (ix3 b g s)
    = scaleRow (N := 2048) (xrow (m ((c : Thread nD τ).loc main_arg0)) (4096 * b.val + s.val) (row_lt b s)) g.val
      (group_le (n := 16) g (by decide)) := rfl

theorem lt64 (t : Fin cfg0.N) : t.val < 64 := t.isLt

theorem xrow_block (t : Fin cfg0.N) (r : Fin 512) (hR : 512 * t.val + r.val < 32768) :
    (fun h => (iblk m c 0 t : Vec Ideal S512x2048 .bf16) (ix2 r h))
      = xrow (m ((c : Thread nD τ).loc main_arg0)) (512 * t.val + r.val) hR := funext fun h => block0 m c t r h hR

theorem nrow_block (t : Fin cfg0.N) (r : Fin 512) (hR : 512 * t.val + r.val < 32768) :
    normRow (ycol (yM m c t) r) (gam (m ((c : Thread nD τ).loc main_arg3))) = nrow m c (512 * t.val + r.val) hR := by
  rw [yM_apply m c t r hR]
  rfl

theorem emb2 (t : Fin cfg0.N) (r : Fin 512) (h : Fin 2048) : (win0_7.blk t).view.emb (ix2 r h)
    = ix2 (⟨512 * t.val + r.val, by have := lt64 t; omega⟩ : Fin 32768) h := by
  blk_ext [idx t]

theorem emb4 (t : Fin cfg0.N) (r : Fin 512) (h : Fin 512) : (win0_4.blk t).view.emb (ix2 r h)
    = ix2 (⟨512 * t.val + r.val, by have := lt64 t; omega⟩ : Fin 32768) h := by
  blk_ext [idx t]

theorem emb5 (t : Fin cfg0.N) (g : Fin 4) (r : Fin 512) : (win0_5.blk t).view.emb (ix3 (0 : Fin 1) g r)
    = ix3 (⟨t.val / 8, by have := lt64 t; omega⟩ : Fin 8) g (⟨512 * (t.val % 8) + r.val, by omega⟩ : Fin 4096) := by
  blk_ext [idx t]

theorem emb6 (t : Fin cfg0.N) (g : Fin 64) (r : Fin 512) : (win0_6.blk t).view.emb (ix3 (0 : Fin 1) g r)
    = ix3 (⟨t.val / 8, by have := lt64 t; omega⟩ : Fin 8) g (⟨512 * (t.val % 8) + r.val, by omega⟩ : Fin 4096) := by
  blk_ext [idx t]

theorem emb8 (t : Fin cfg0.N) (g : Fin 16) (r : Fin 512) : (win0_8.blk t).view.emb (ix3 (0 : Fin 1) g r)
    = ix3 (⟨t.val / 8, by have := lt64 t; omega⟩ : Fin 8) g (⟨512 * (t.val % 8) + r.val, by omega⟩ : Fin 4096) := by
  blk_ext [idx t]

theorem at4 (t : Fin cfg0.N) (y : S512x512.Idx) :
    ccG (yM m c t) (gam (m ((c : Thread nD τ).loc main_arg3))) y = R4 m c ((win0_4.blk t).view.emb y) := by
  obtain ⟨r, h, rfl⟩ : ∃ (r : Fin 512) (h : Fin 512), y = ix2 r h := ⟨y 0, y 1, eq_ix2 y⟩
  refine Eq.trans ?_ (congrArg (R4 m c) (emb4 t r h).symm)
  rw [R4_at, ccG_at, nrow_block m c t r (by have := lt64 t; omega)]

theorem at5 (t : Fin cfg0.N) (y : S1x4x512.Idx) :
    csG (yM m c t) (gam (m ((c : Thread nD τ).loc main_arg3))) y = R5 m c ((win0_5.blk t).view.emb y) := by
  obtain ⟨u, g, r, rfl⟩ : ∃ (u : Fin 1) (g : Fin 4) (r : Fin 512), y = ix3 u g r := ⟨y 0, y 1, y 2, eq_ix3 y⟩
  obtain rfl : u = 0 := Subsingleton.elim _ _
  refine Eq.trans ?_ (congrArg (R5 m c) (emb5 t g r).symm)
  have ht := lt64 t
  rw [R5_at, csG_at, nrow_block m c t r (by omega), nrow_congr m c (row_eq t.val r.val) _ (by omega)]

/-- The rows past the norm's, of one block. -/
def kpeG (y : Vec Ideal S576x512 .f32) : Vec Ideal S1x64x512 .bf16 := fun j =>
  ycol y (j 2) ⟨512 + (j 1 : Fin 64).val, by have h : (j 1 : Fin 64).val < 64 := (j 1 : Fin 64).isLt; omega⟩

theorem kpeG_at (y : Vec Ideal S576x512 .f32) (u : Fin 1) (a : Fin 64) (r : Fin 512) :
    kpeG y (ix3 u a r) = ycol y r ⟨512 + a.val, by omega⟩ := rfl

theorem kpeB_eq (y : Vec Ideal S576x512 .f32) : kpeB y = kpeG y := by
  funext j
  obtain ⟨u, a, r, rfl⟩ : ∃ (u : Fin 1) (a : Fin 64) (r : Fin 512), j = ix3 u a r := ⟨j 0, j 1, j 2, eq_ix3 j⟩
  obtain rfl : u = 0 := Subsingleton.elim _ _
  rw [kpeB_apply, kpeG_at]
  rfl

theorem at6 (t : Fin cfg0.N) (y : S1x64x512.Idx) : kpeG (yM m c t) y = R6 m c ((win0_6.blk t).view.emb y) := by
  obtain ⟨u, a, r, rfl⟩ : ∃ (u : Fin 1) (a : Fin 64) (r : Fin 512), y = ix3 u a r := ⟨y 0, y 1, y 2, eq_ix3 y⟩
  obtain rfl : u = 0 := Subsingleton.elim _ _
  refine Eq.trans ?_ (congrArg (R6 m c) (emb6 t a r).symm)
  have ht := lt64 t
  rw [R6_at, kpeG_at, yM_apply m c t r (by omega), xrow_congr _ (row_eq t.val r.val) _ (by omega)]

theorem at7 (t : Fin cfg0.N) (y : S512x2048.Idx) : xcG (iblk m c 0 t) y = R7 m c ((win0_7.blk t).view.emb y) := by
  obtain ⟨r, h, rfl⟩ : ∃ (r : Fin 512) (h : Fin 2048), y = ix2 r h := ⟨y 0, y 1, eq_ix2 y⟩
  refine Eq.trans ?_ (congrArg (R7 m c) (emb2 t r h).symm)
  rw [R7_at, xcG_at, xrow_block m c t r (by have := lt64 t; omega)]

theorem at8 (t : Fin cfg0.N) (y : S1x16x512.Idx) : xsG (iblk m c 0 t) y = R8 m c ((win0_8.blk t).view.emb y) := by
  obtain ⟨u, g, r, rfl⟩ : ∃ (u : Fin 1) (g : Fin 16) (r : Fin 512), y = ix3 u g r := ⟨y 0, y 1, y 2, eq_ix3 y⟩
  obtain rfl : u = 0 := Subsingleton.elim _ _
  refine Eq.trans ?_ (congrArg (R8 m c) (emb8 t g r).symm)
  have ht := lt64 t
  rw [R8_at, xsG_at, xrow_block m c t r (by omega), xrow_congr _ (row_eq t.val r.val) _ (by omega)]

theorem final4 : (dats m 0 c).arrAt 4 (cfgs 0).N = R4 m c := by
  refine (dats m 0 c).arrAt_eq_of_covers 4 _ (by decide +kernel) fun t hf y => ?_
  blk_simp
  rw [after0_4, point, ccB_eq _ _ _ (gbM_apply m c)]
  exact at4 m c t y

theorem final5 : (dats m 0 c).arrAt 5 (cfgs 0).N = R5 m c := by
  refine (dats m 0 c).arrAt_eq_of_covers 5 _ (by decide +kernel) fun t hf y => ?_
  blk_simp
  rw [after0_5, point, csB_eq _ _ _ (gbM_apply m c)]
  exact at5 m c t y

theorem after6_eq (t : Fin cfg0.N) : (dats m 0 c).after 6 t = kpeG (yM m c t) := by
  rw [after0_6, point, kpeB_eq]

theorem final6 : (dats m 0 c).arrAt 6 (cfgs 0).N = R6 m c := by
  refine (dats m 0 c).arrAt_eq_of_covers 6 _ (by decide +kernel) fun t hf y => ?_
  blk_simp
  rw [after6_eq]
  exact at6 m c t y

theorem final7 : (dats m 0 c).arrAt 7 (cfgs 0).N = R7 m c := by
  refine (dats m 0 c).arrAt_eq_of_covers 7 _ (by decide +kernel) fun t hf y => ?_
  blk_simp
  rw [after0_7, point, xcB_eq]
  exact at7 m c t y

theorem final8 : (dats m 0 c).arrAt 8 (cfgs 0).N = R8 m c := by
  refine (dats m 0 c).arrAt_eq_of_covers 8 _ (by decide +kernel) fun t hf y => ?_
  blk_simp
  rw [after0_8, point, xsB_eq]
  exact at8 m c t y

end Cert.KernelIdeal.Site

end
-- ==== Proof.KernelRun.lean ====
/- The kernel's run over the extended reals: its five results as functions of its arguments. -/
module

public import proofs.«01_k».proof.Proof.KernelValue

@[expose] public section

set_option maxRecDepth 16384

noncomputable section

namespace Cert.KernelIdeal.Site

open Idealize.ShloMosaic Idealize.ShloMosaic.TcCoe Cert.KernelIdeal.Gen Cert.Scale
open Idealize.SL.Sem

variable (m : (ℓ : Loc nD τ sig) → Buf (Elt Ideal) ℓ) (ρ : Dev nD → PrngReg) (c : Dev nD)

/-- The codes of the normalised rows, as the kernel returns them. -/
def K3 : Vec Ideal S8x4096x512 .fp8e4m3 := shapeCast S8x4096x512 (R4 m c) shapeCasts_S32768x512_S8x4096x512

/-- Their scales. -/
def K4 : Vec Ideal S8x4096x4 .f32 := transpose S8x4096x4 [0, 2, 1] (R5 m c) transposes_S8x4x4096_S8x4096x4_0_2_1

/-- The rows past the norm's. -/
def K5 : Vec Ideal S8x4096x64 .bf16 := transpose S8x4096x64 [0, 2, 1] (R6 m c) transposes_S8x64x4096_S8x4096x64_0_2_1

/-- The codes of the input. -/
def K6 : Vec Ideal S8x4096x2048 .fp8e4m3 := shapeCast S8x4096x2048 (R7 m c) shapeCasts_S32768x2048_S8x4096x2048

/-- Their scales. -/
def K7 : Vec Ideal S8x4096x16 .f32 := transpose S8x4096x16 [0, 2, 1] (R8 m c) transposes_S8x16x4096_S8x4096x16_0_2_1

theorem tail3 : Pipeline.afterTail₀ cfgs (dats m) 0 (V0 m) [hostOps1] c main_v3 = K3 m c := by
  unfold Pipeline.afterTail₀ K3
  rw [List.flatten_cons, List.flatten_nil, List.append_nil]
  after_results
  rw [← final4 m c]
  refine congrArg (fun x => shapeCast S8x4096x512 x shapeCasts_S32768x512_S8x4096x512) ?_
  exact Pipeline.withArrays_arr spec0 launch0.win.arr_inj c (V0 m c) (fun w => (dats m 0 c).arrAt w (cfgs 0).N) 4

theorem tail4 : Pipeline.afterTail₀ cfgs (dats m) 0 (V0 m) [hostOps1] c main_v4 = K4 m c := by
  unfold Pipeline.afterTail₀ K4
  rw [List.flatten_cons, List.flatten_nil, List.append_nil]
  after_results
  rw [← final5 m c]
  refine congrArg (fun x => transpose S8x4096x4 [0, 2, 1] x transposes_S8x4x4096_S8x4096x4_0_2_1) ?_
  exact Pipeline.withArrays_arr spec0 launch0.win.arr_inj c (V0 m c) (fun w => (dats m 0 c).arrAt w (cfgs 0).N) 5

theorem tail5 : Pipeline.afterTail₀ cfgs (dats m) 0 (V0 m) [hostOps1] c main_v5 = K5 m c := by
  unfold Pipeline.afterTail₀ K5
  rw [List.flatten_cons, List.flatten_nil, List.append_nil]
  after_results
  rw [← final6 m c]
  refine congrArg (fun x => transpose S8x4096x64 [0, 2, 1] x transposes_S8x64x4096_S8x4096x64_0_2_1) ?_
  exact Pipeline.withArrays_arr spec0 launch0.win.arr_inj c (V0 m c) (fun w => (dats m 0 c).arrAt w (cfgs 0).N) 6

theorem tail6 : Pipeline.afterTail₀ cfgs (dats m) 0 (V0 m) [hostOps1] c main_v6 = K6 m c := by
  unfold Pipeline.afterTail₀ K6
  rw [List.flatten_cons, List.flatten_nil, List.append_nil]
  after_results
  rw [← final7 m c]
  refine congrArg (fun x => shapeCast S8x4096x2048 x shapeCasts_S32768x2048_S8x4096x2048) ?_
  exact Pipeline.withArrays_arr spec0 launch0.win.arr_inj c (V0 m c) (fun w => (dats m 0 c).arrAt w (cfgs 0).N) 7

theorem tail7 : Pipeline.afterTail₀ cfgs (dats m) 0 (V0 m) [hostOps1] c main_v7 = K7 m c := by
  unfold Pipeline.afterTail₀ K7
  rw [List.flatten_cons, List.flatten_nil, List.append_nil]
  after_results
  rw [← final8 m c]
  refine congrArg (fun x => transpose S8x4096x16 [0, 2, 1] x transposes_S8x16x4096_S8x4096x16_0_2_1) ?_
  exact Pipeline.withArrays_arr spec0 launch0.win.arr_inj c (V0 m c) (fun w => (dats m 0 c).arrAt w (cfgs 0).N) 8

/-- The kernel ends with its results at these functions of its arguments, which it leaves as they were. -/
theorem run : θ_run defs (onTc (τ := τ) (main (F := Ideal))) ⟨m, fun _ => 0, ρ⟩ fun r => ∀ c : Dev nD,
      r.2.mem ((c : Thread nD τ).loc main_v3) = K3 m c
      ∧ r.2.mem ((c : Thread nD τ).loc main_v4) = K4 m c
      ∧ r.2.mem ((c : Thread nD τ).loc main_v5) = K5 m c
      ∧ r.2.mem ((c : Thread nD τ).loc main_v6) = K6 m c
      ∧ r.2.mem ((c : Thread nD τ).loc main_v7) = K7 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c =>
    ⟨((h c).2 main_v3 (Pipeline.mem_restRefs_of main_v3 (by decide) (by decide))).trans (tail3 m c),
     ((h c).2 main_v4 (Pipeline.mem_restRefs_of main_v4 (by decide) (by decide))).trans (tail4 m c),
     ((h c).2 main_v5 (Pipeline.mem_restRefs_of main_v5 (by decide) (by decide))).trans (tail5 m c),
     ((h c).2 main_v6 (Pipeline.mem_restRefs_of main_v6 (by decide) (by decide))).trans (tail6 m c),
     ((h c).2 main_v7 (Pipeline.mem_restRefs_of main_v7 (by decide) (by decide))).trans (tail7 m c),
     ((h c).2 main_arg0 (Pipeline.mem_restRefs_of main_arg0 (by decide) (by decide))).trans (W_main_arg0 m (dats m) c),
     ((h c).1 1).trans (((dats m 0 c).arrAt_in 1 rfl _).trans ((A_eq m c 1).trans (V_main_arg1 m c))),
     ((h c).1 2).trans (((dats m 0 c).arrAt_in 2 rfl _).trans ((A_eq m c 2).trans (V_main_arg2 m c))),
     ((h c).2 main_arg3 (Pipeline.mem_restRefs_of main_arg3 (by decide) (by decide))).trans (W_main_arg3 m (dats m) c)⟩)
    (run_main m ρ)

end Cert.KernelIdeal.Site

end
-- ==== Proof.RefRow.lean ====
/- The reference's values at an index, over the extended reals: each as a function of one row of the input. -/
module

public import proofs.«01_k».proof.Proof.Gen.ReferenceIdeal.Value
public import proofs.«01_k».proof.Proof.BlockAt

@[expose] public section

set_option maxRecDepth 16384

noncomputable section

namespace Cert.ReferenceIdeal.Row

open Idealize.ShloMosaic Idealize.ShloMosaic.TcCoe Cert.ReferenceIdeal.Gen Cert.Scale
open Cert.KernelIdeal.Site (grp ratio amax clip fold_max wdG grp_congr)

theorem top_eq : Ideal.ofBits .f32 0x7F800000#32 = ⊤ := T_top

theorem least_eq : Ideal.ofBits .f32 0x00800000#32 = (((2 : ℝ) ^ (-126 : ℤ) : ℝ) : EReal) :=
  T_normal 1 (by decide) (by decide)

theorem one_eq : Ideal.ofBits .f32 0x3F800000#32 = 1 := one_T

theorem off_eq : Ideal.ofBits .f32 0x42FA0000#32 = ((125 : ℝ) : EReal) := by
  have h : (BitVec.extractLsb' 23 8 0x42FA0000#32).toNat = 133
    ∧ (BitVec.extractLsb' 0 23 0x42FA0000#32).toNat = 7995392
    ∧ (BitVec.extractLsb' 31 1 0x42FA0000#32 == 1#1) = false := by decide +kernel
  unfold Ideal.ofBits Ideal.ieee
  simp only [h.1, h.2.1, h.2.2]
  norm_num

theorem words : ∀ k : Fin 252, (BitVec.ofNat 32 k.val).toInt = (k.val : ℤ) := by
  decide +kernel

theorem power_eq (k : Fin 252) :
    FloatOps.exp2 (F := Ideal) (φ := .f32) (FloatOps.sitofp (F := Ideal) .f32 (BitVec.ofNat 32 k.val) - Ideal.ofBits .f32 0x42FA0000#32)
      = power k.val := by
  show Ideal.exp2 ((((BitVec.ofNat 32 k.val).toInt : ℝ) : EReal) - Ideal.ofBits .f32 0x42FA0000#32) = _
  rw [off_eq, words k, ← EReal.coe_sub, Ideal.exp2_coe]
  have e : ((k.val : ℤ) : ℝ) - 125 = (((k.val : ℤ) - 125 : ℤ) : ℝ) := by push_cast; ring
  unfold power
  rw [e]
  exact congrArg _ (Real.rpow_intCast 2 _)

/-- The codes of a row, the reference's. -/
def rCode {N : ℕ} (hN : N % 128 = 0) (f : Fin N → EReal) (h : Fin N) : EReal :=
  clip (f h * Ideal.div 1 (rScale (ratio (grp f (h.val / 128) (by omega)))))

/-- A row dequantised, the reference's. -/
def rDeq {N : ℕ} (hN : N % 128 = 0) (f : Fin N → EReal) (h : Fin N) : EReal :=
  rCode hN f h * rScale (ratio (grp f (h.val / 128) (by omega)))

/-- A row of the product, the reference's. -/
def rProd (x1 : Vec Ideal S576x2048 .fp8e4m3) (x2 : Vec Ideal S5x16 .f32) (f : Fin 2048 → EReal) (o : Fin 576) : EReal :=
  ∑ h : Fin 2048, rDeq (N := 2048) rfl f h * wdG x1 x2 o h

/-- A row normalised, the reference's. -/
def rNorm (y : Fin 576 → EReal) (gm : Fin 512 → EReal) (o : Fin 512) : EReal :=
  y ⟨o.val, by omega⟩ * Ideal.rsqrt (Ideal.div (∑ k : Fin 512, y ⟨k.val, by omega⟩ * y ⟨k.val, by omega⟩)
    (Ideal.ofBits .f32 0x44000000#32) + Ideal.ofBits .f32 0x358637BD#32) * gm o

/-- The groups' maxima. -/
def maxV16 (x : FVec Ideal S8x4096x16x128 .f32) : FVec Ideal S8x4096x16 .f32 :=
  multiReduction .maximumf [3] S8x4096x16 x 0xFF800000#32 reduces_S8x4096x16x128_S8x4096x16 (.inl rfl) rfl

/-- The maxima's ratios. -/
def mulV16 (a : FVec Ideal S8x4096x16 .f32) : FVec Ideal S8x4096x16 .f32 :=
  mulf a (broadcast S8x4096x16 (Scalar.ofBits .f32 0x3B124925#32))

/-- The groups' ratios. -/
def ratV16 (x : FVec Ideal S8x4096x16x128 .f32) : FVec Ideal S8x4096x16 .f32 := mulV16 (maxV16 (absf x))

/-- The powers compared with. -/
def powV16 : FVec Ideal S8x4096x16x252 .f32 :=
  exp2 (subf (sitofp .f32 (iota .tc S8x4096x16x252 32 [3] iota_S8x4096x16x252_d3_w32))
    (broadcast S8x4096x16x252 (Scalar.ofBits .f32 0x42FA0000#32)))

/-- The groups' scales. -/
def scaleV16 (r : FVec Ideal S8x4096x16 .f32) (w : FVec Ideal S8x4096x16x252 .f32) : FVec Ideal S8x4096x16 .f32 :=
  select (cmpf .olt (shapeCast S8x4096x16 (shapeCast S8x4096x16x1 r shapeCasts_S8x4096x16_S8x4096x16x1)
      shapeCasts_S8x4096x16x1_S8x4096x16) (broadcast S8x4096x16 (Scalar.ofBits .f32 0x00800000#32)))
    (broadcast S8x4096x16 (Scalar.ofBits .f32 0x3F800000#32))
    (multiReduction .minimumf [3] S8x4096x16
      (select (cmpf .olt (broadcastTo S8x4096x16x252 (shapeCast S8x4096x16x1 r shapeCasts_S8x4096x16_S8x4096x16x1)
        broadcasts_S8x4096x16x1_S8x4096x16x252) w) w
        (broadcast S8x4096x16x252 (Scalar.ofBits .f32 0x7F800000#32)))
      0x7F800000#32 reduces_S8x4096x16x252_S8x4096x16 (.inl rfl) rfl)

/-- The codes. -/
def codeV16 (x : FVec Ideal S8x4096x16x128 .f32) (sc : FVec Ideal S8x4096x16 .f32) : FVec Ideal S8x4096x2048 .fp8e4m3 :=
  shapeCast S8x4096x2048 (truncf .fp8e4m3 (minimumf (broadcast S8x4096x16x128 (Scalar.ofBits .f32 0x43E00000#32))
    (maximumf (broadcast S8x4096x16x128 (Scalar.ofBits .f32 0xC3E00000#32))
      (mulf x (broadcastTo S8x4096x16x128 (shapeCast S8x4096x16x1 (divf (broadcast S8x4096x16 (Scalar.ofBits .f32 0x3F800000#32)) sc)
        shapeCasts_S8x4096x16_S8x4096x16x1) broadcasts_S8x4096x16x1_S8x4096x16x128)))) bitsLt_fp8e4m3_f32)
    shapeCasts_S8x4096x16x128_S8x4096x2048

theorem maxV16_apply (x : FVec Ideal S8x4096x16x128 .f32) (b : Fin 8) (s : Fin 4096) (g : Fin 16) :
    maxV16 x (ix3 b s g) = (Finset.univ : Finset (Fin 128)).sup fun k => x (ix4 b s g k) := by
  unfold maxV16
  pointwise
  rw [fold_max]

theorem mulV16_apply (a : FVec Ideal S8x4096x16 .f32) (j : S8x4096x16.Idx) :
    mulV16 a j = a j * Ideal.ofBits .f32 0x3B124925#32 := rfl

theorem absV16_apply (x : FVec Ideal S8x4096x16x128 .f32) (j : S8x4096x16x128.Idx) : absf x j = max (x j) (-x j) := rfl

theorem ratV16_apply (x : FVec Ideal S8x4096x16x128 .f32) (b : Fin 8) (s : Fin 4096) (g : Fin 16) :
    ratV16 x (ix3 b s g) = ratio fun k => x (ix4 b s g k) := by
  unfold ratV16 ratio amax
  rw [mulV16_apply, maxV16_apply]
  exact congrArg (fun u : EReal => u * Ideal.ofBits .f32 0x3B124925#32)
    (Finset.sup_congr rfl fun k _ => absV16_apply x (ix4 b s g k))

theorem powV16_apply (b : Fin 8) (s : Fin 4096) (g : Fin 16) (k : Fin 252) : powV16 (ix4 b s g k) = power k.val := by
  unfold powV16
  pointwise
  exact power_eq k

theorem scaleV16_apply (r : FVec Ideal S8x4096x16 .f32) (w : FVec Ideal S8x4096x16x252 .f32) (b : Fin 8) (s : Fin 4096) (g : Fin 16)
    (hw : ∀ k, w (ix4 b s g k) = power k.val) : scaleV16 r w (ix3 b s g) = rScale (r (ix3 b s g)) := by
  unfold scaleV16
  pointwise [hw]
  rw [top_eq, least_eq]
  rfl

theorem codeV16_apply (x : FVec Ideal S8x4096x16x128 .f32) (sc : FVec Ideal S8x4096x16 .f32) (b : Fin 8) (s : Fin 4096) (h : Fin 2048) :
    codeV16 x sc (ix3 b s h) = clip (x (ix4 b s (⟨h.val / 128, by omega⟩ : Fin 16) (⟨h.val % 128, by omega⟩ : Fin 128))
      * Ideal.div 1 (sc (ix3 b s (⟨h.val / 128, by omega⟩ : Fin 16)))) := by
  unfold codeV16 clip
  pointwise

/-- The groups' maxima. -/
def maxV4 (x : FVec Ideal S8x4096x4x128 .f32) : FVec Ideal S8x4096x4 .f32 :=
  multiReduction .maximumf [3] S8x4096x4 x 0xFF800000#32 reduces_S8x4096x4x128_S8x4096x4 (.inl rfl) rfl

/-- The maxima's ratios. -/
def mulV4 (a : FVec Ideal S8x4096x4 .f32) : FVec Ideal S8x4096x4 .f32 :=
  mulf a (broadcast S8x4096x4 (Scalar.ofBits .f32 0x3B124925#32))

/-- The groups' ratios. -/
def ratV4 (x : FVec Ideal S8x4096x4x128 .f32) : FVec Ideal S8x4096x4 .f32 := mulV4 (maxV4 (absf x))

/-- The powers compared with. -/
def powV4 : FVec Ideal S8x4096x4x252 .f32 :=
  exp2 (subf (sitofp .f32 (iota .tc S8x4096x4x252 32 [3] iota_S8x4096x4x252_d3_w32))
    (broadcast S8x4096x4x252 (Scalar.ofBits .f32 0x42FA0000#32)))

/-- The groups' scales. -/
def scaleV4 (r : FVec Ideal S8x4096x4 .f32) (w : FVec Ideal S8x4096x4x252 .f32) : FVec Ideal S8x4096x4 .f32 :=
  select (cmpf .olt (shapeCast S8x4096x4 (shapeCast S8x4096x4x1 r shapeCasts_S8x4096x4_S8x4096x4x1)
      shapeCasts_S8x4096x4x1_S8x4096x4) (broadcast S8x4096x4 (Scalar.ofBits .f32 0x00800000#32)))
    (broadcast S8x4096x4 (Scalar.ofBits .f32 0x3F800000#32))
    (multiReduction .minimumf [3] S8x4096x4
      (select (cmpf .olt (broadcastTo S8x4096x4x252 (shapeCast S8x4096x4x1 r shapeCasts_S8x4096x4_S8x4096x4x1)
        broadcasts_S8x4096x4x1_S8x4096x4x252) w) w
        (broadcast S8x4096x4x252 (Scalar.ofBits .f32 0x7F800000#32)))
      0x7F800000#32 reduces_S8x4096x4x252_S8x4096x4 (.inl rfl) rfl)

/-- The codes. -/
def codeV4 (x : FVec Ideal S8x4096x4x128 .f32) (sc : FVec Ideal S8x4096x4 .f32) : FVec Ideal S8x4096x512 .fp8e4m3 :=
  shapeCast S8x4096x512 (truncf .fp8e4m3 (minimumf (broadcast S8x4096x4x128 (Scalar.ofBits .f32 0x43E00000#32))
    (maximumf (broadcast S8x4096x4x128 (Scalar.ofBits .f32 0xC3E00000#32))
      (mulf x (broadcastTo S8x4096x4x128 (shapeCast S8x4096x4x1 (divf (broadcast S8x4096x4 (Scalar.ofBits .f32 0x3F800000#32)) sc)
        shapeCasts_S8x4096x4_S8x4096x4x1) broadcasts_S8x4096x4x1_S8x4096x4x128)))) bitsLt_fp8e4m3_f32)
    shapeCasts_S8x4096x4x128_S8x4096x512

theorem maxV4_apply (x : FVec Ideal S8x4096x4x128 .f32) (b : Fin 8) (s : Fin 4096) (g : Fin 4) :
    maxV4 x (ix3 b s g) = (Finset.univ : Finset (Fin 128)).sup fun k => x (ix4 b s g k) := by
  unfold maxV4
  pointwise
  rw [fold_max]

theorem mulV4_apply (a : FVec Ideal S8x4096x4 .f32) (j : S8x4096x4.Idx) :
    mulV4 a j = a j * Ideal.ofBits .f32 0x3B124925#32 := rfl

theorem absV4_apply (x : FVec Ideal S8x4096x4x128 .f32) (j : S8x4096x4x128.Idx) : absf x j = max (x j) (-x j) := rfl

theorem ratV4_apply (x : FVec Ideal S8x4096x4x128 .f32) (b : Fin 8) (s : Fin 4096) (g : Fin 4) :
    ratV4 x (ix3 b s g) = ratio fun k => x (ix4 b s g k) := by
  unfold ratV4 ratio amax
  rw [mulV4_apply, maxV4_apply]
  exact congrArg (fun u : EReal => u * Ideal.ofBits .f32 0x3B124925#32)
    (Finset.sup_congr rfl fun k _ => absV4_apply x (ix4 b s g k))

theorem powV4_apply (b : Fin 8) (s : Fin 4096) (g : Fin 4) (k : Fin 252) : powV4 (ix4 b s g k) = power k.val := by
  unfold powV4
  pointwise
  exact power_eq k

theorem scaleV4_apply (r : FVec Ideal S8x4096x4 .f32) (w : FVec Ideal S8x4096x4x252 .f32) (b : Fin 8) (s : Fin 4096) (g : Fin 4)
    (hw : ∀ k, w (ix4 b s g k) = power k.val) : scaleV4 r w (ix3 b s g) = rScale (r (ix3 b s g)) := by
  unfold scaleV4
  pointwise [hw]
  rw [top_eq, least_eq]
  rfl

theorem codeV4_apply (x : FVec Ideal S8x4096x4x128 .f32) (sc : FVec Ideal S8x4096x4 .f32) (b : Fin 8) (s : Fin 4096) (h : Fin 512) :
    codeV4 x sc (ix3 b s h) = clip (x (ix4 b s (⟨h.val / 128, by omega⟩ : Fin 4) (⟨h.val % 128, by omega⟩ : Fin 128))
      * Ideal.div 1 (sc (ix3 b s (⟨h.val / 128, by omega⟩ : Fin 4)))) := by
  unfold codeV4 clip
  pointwise

theorem pay4_eq (v0 : Vec Ideal S8x4096x2048 .bf16) : k0_pay4 (F := Ideal) v0 = scaleV16 (ratV16 (k0_pay3 v0)) powV16 := rfl

theorem pay5_eq (v0 : Vec Ideal S8x4096x2048 .bf16) : k0_pay5 (F := Ideal) v0 = codeV16 (k0_pay3 v0) (k0_pay4 v0) := rfl

/-- A row of the input, by batch and position. -/
def rowOf (v0 : Vec Ideal S8x4096x2048 .bf16) (b : Fin 8) (s : Fin 4096) (h : Fin 2048) : EReal := v0 (ix3 b s h)

theorem pay3_apply (v0 : Vec Ideal S8x4096x2048 .bf16) (b : Fin 8) (s : Fin 4096) (g : Fin 16) (k : Fin 128) :
    k0_pay3 (F := Ideal) v0 (ix4 b s g k) = rowOf v0 b s (⟨128 * g.val + k.val, by omega⟩ : Fin 2048) := by
  unfold k0_pay3
  pointwise
  exact congrArg (fun i : Fin 2048 => v0 (ix3 b s i)) (Fin.ext (by dsimp only; omega))

theorem pay4_apply (v0 : Vec Ideal S8x4096x2048 .bf16) (b : Fin 8) (s : Fin 4096) (g : Fin 16) :
    k0_pay4 (F := Ideal) v0 (ix3 b s g) = rScale (ratio (grp (rowOf v0 b s) g.val (by omega))) := by
  rw [pay4_eq, scaleV16_apply _ _ _ _ _ (fun k => powV16_apply b s g k), ratV16_apply]
  simp only [pay3_apply]
  rfl

theorem pay5_apply (v0 : Vec Ideal S8x4096x2048 .bf16) (b : Fin 8) (s : Fin 4096) (h : Fin 2048) :
    k0_pay5 (F := Ideal) v0 (ix3 b s h) = rCode (N := 2048) rfl (rowOf v0 b s) h := by
  rw [pay5_eq, codeV16_apply, pay3_apply, pay4_apply]
  unfold rCode
  refine congrArg (fun i : Fin 2048 => clip (rowOf v0 b s i * _)) (Fin.ext ?_)
  dsimp only
  omega

theorem pay6_apply (v0 : Vec Ideal S8x4096x2048 .bf16) (b : Fin 8) (s : Fin 4096) (h : Fin 2048) :
    k0_pay6 (F := Ideal) v0 (ix3 b s h) = rDeq (N := 2048) rfl (rowOf v0 b s) h := by
  unfold k0_pay6
  pointwise
  rw [pay5_apply, pay4_apply]
  rfl

theorem pay7_apply (x2 : Vec Ideal S5x16 .f32) (a : Fin 5) (o : Fin 128) (g : Fin 16) (k : Fin 128) :
    k0_pay7 (F := Ideal) x2 (ix4 a o g k) = x2 (ix2 a g) := by
  unfold k0_pay7
  pointwise

/-- The dequantised weights. -/
def wV (v44 : FVec Ideal S5x128x16x128 .f32) (v47 : Vec Ideal S576x2048 .fp8e4m3) : FVec Ideal S576x2048 .bf16 :=
  mulf (extf .bf16 v47 bitsLt_fp8e4m3_bf16) (truncf .bf16 (extractStridedSlice S576x2048 ![0, 0]
    (shapeCast S640x2048 v44 shapeCasts_S5x128x16x128_S640x2048) slices_S640x2048_o0_0_S576x2048) bitsLt_bf16_f32)

/-- The product. -/
def prodV (x : FVec Ideal S8x4096x2048 .bf16) (w : FVec Ideal S576x2048 .bf16) : FVec Ideal S8x4096x576 .f32 :=
  shapeCast S8x4096x576 (matmul dot_S32768x2048_S576x2048_S32768x576_1_1_0_0_n_n none
    (shapeCast S32768x2048 x shapeCasts_S8x4096x2048_S32768x2048) w (constant S32768x576 .f32 0x00000000#32))
    shapeCasts_S32768x576_S8x4096x576

theorem pay8_eq (v40 : FVec Ideal S8x4096x2048 .bf16) (v44 : FVec Ideal S5x128x16x128 .f32) (v47 : Vec Ideal S576x2048 .fp8e4m3) :
    k0_pay8 (F := Ideal) v40 v44 v47 = prodV v40 (wV v44 v47) := rfl

theorem wV_apply (v44 : FVec Ideal S5x128x16x128 .f32) (v47 : Vec Ideal S576x2048 .fp8e4m3) (o : Fin 576) (h : Fin 2048) :
    wV v44 v47 (ix2 o h) = v47 (ix2 o h) * v44 (ix4 (⟨o.val / 128, by omega⟩ : Fin 5) (⟨o.val % 128, by omega⟩ : Fin 128)
      (⟨h.val / 128, by omega⟩ : Fin 16) (⟨h.val % 128, by omega⟩ : Fin 128)) := by
  unfold wV
  pointwise

theorem join (X : FVec Ideal S8x4096x2048 .bf16) (R : Fin 32768) (h : Fin 2048) :
    shapeCast S32768x2048 X shapeCasts_S8x4096x2048_S32768x2048 (ix2 R h)
      = X (ix3 (⟨R / 4096, by omega⟩ : Fin 8) (⟨R % 4096, by omega⟩ : Fin 4096) h) := by
  pointwise

theorem split (X : FVec Ideal S32768x576 .f32) (b : Fin 8) (s : Fin 4096) (o : Fin 576) :
    shapeCast S8x4096x576 X shapeCasts_S32768x576_S8x4096x576 (ix3 b s o)
      = X (ix2 (⟨4096 * b.val + s.val, by omega⟩ : Fin 32768) o) := by
  pointwise
  exact congrArg (fun i : Fin 32768 => X (ix2 i o)) (Fin.ext (by dsimp only; omega))

theorem mat (X : FVec Ideal S32768x2048 .bf16) (w : FVec Ideal S576x2048 .bf16) (R : Fin 32768) (o : Fin 576) :
    matmul dot_S32768x2048_S576x2048_S32768x576_1_1_0_0_n_n none X w (constant S32768x576 .f32 0x00000000#32) (ix2 R o)
      = ∑ h : Fin 2048, X (ix2 R h) * w (ix2 o h) := by
  pointwise

theorem pay8_apply (v40 : FVec Ideal S8x4096x2048 .bf16) (x2 : Vec Ideal S5x16 .f32) (x1 : Vec Ideal S576x2048 .fp8e4m3)
    (f : Fin 2048 → EReal) (b : Fin 8) (s : Fin 4096) (o : Fin 576) (hf : ∀ h, v40 (ix3 b s h) = rDeq (N := 2048) rfl f h) :
    k0_pay8 (F := Ideal) v40 (k0_pay7 (F := Ideal) x2) x1 (ix3 b s o) = rProd x1 x2 f o := by
  rw [pay8_eq]
  unfold prodV
  rw [split, mat]
  unfold rProd
  refine Finset.sum_congr rfl fun h _ => ?_
  rw [join, wV_apply, pay7_apply]
  refine congrArg₂ (fun u v : EReal => u * v) ((congrArg₂ (fun (i : Fin 8) (j : Fin 4096) => v40 (ix3 i j h)) (Fin.ext ?_) (Fin.ext ?_)).trans (hf h)) rfl
  · show (4096 * b.val + s.val) / 4096 = b.val
    omega
  · show (4096 * b.val + s.val) % 4096 = s.val
    omega

/-- The normalised rows. -/
def normV (y : FVec Ideal S8x4096x576 .f32) (v65 : Vec Ideal S512 .f32) : FVec Ideal S8x4096x512 .f32 :=
  have v54 : FVec Ideal S8x4096x512 .f32 := extractStridedSlice S8x4096x512 ![0, 0, 0] y slices_S8x4096x576_o0_0_0_S8x4096x512
  have v56 : FVec Ideal S8x4096 .f32 := multiReduction .add [2] S8x4096 (mulf v54 v54) 0x00000000#32 reduces_S8x4096x512_S8x4096 (.inl rfl) rfl
  have v57 : FVec Ideal S8x4096x1 .f32 := shapeCast S8x4096x1 v56 shapeCasts_S8x4096_S8x4096x1
  have v59 : FVec Ideal S8x4096x1 .f32 := divf v57 (broadcast S8x4096x1 (Scalar.ofBits .f32 0x44000000#32))
  have v61 : FVec Ideal S8x4096x1 .f32 := addf v59 (broadcast S8x4096x1 (Scalar.ofBits .f32 0x358637BD#32))
  have v63 : FVec Ideal S8x4096x512 .f32 := broadcastTo S8x4096x512 (rsqrt v61) broadcasts_S8x4096x1_S8x4096x512
  have v66 : FVec Ideal S1x1x512 .f32 := shapeCast S1x1x512 v65 shapeCasts_S512_S1x1x512
  mulf (mulf v54 v63) (broadcastTo S8x4096x512 v66 broadcasts_S1x1x512_S8x4096x512)

theorem pay9_eq (v40 : FVec Ideal S8x4096x2048 .bf16) (v44 : FVec Ideal S5x128x16x128 .f32) (v47 : Vec Ideal S576x2048 .fp8e4m3)
    (v65 : Vec Ideal S512 .f32) : k0_pay9 (F := Ideal) v40 v44 v47 v65
      = shapeCast S8x4096x4x128 (normV (k0_pay8 v40 v44 v47) v65) shapeCasts_S8x4096x512_S8x4096x4x128 := rfl

theorem pay10_eq (v40 : FVec Ideal S8x4096x2048 .bf16) (v44 : FVec Ideal S5x128x16x128 .f32) (v47 : Vec Ideal S576x2048 .fp8e4m3)
    (v65 : Vec Ideal S512 .f32) : k0_pay10 (F := Ideal) v40 v44 v47 v65 = scaleV4 (ratV4 (k0_pay9 v40 v44 v47 v65)) powV4 := rfl

theorem pay1_eq (v69 : FVec Ideal S8x4096x4x128 .f32) (v89 : FVec Ideal S8x4096x4 .f32) :
    k0_pay1 (F := Ideal) v69 v89 (Scalar.ofBits .f32 0x3F800000#32) = codeV4 v69 v89 := rfl

theorem normV_apply (y : FVec Ideal S8x4096x576 .f32) (v65 : Vec Ideal S512 .f32) (b : Fin 8) (s : Fin 4096) (o : Fin 512) :
    normV y v65 (ix3 b s o) = rNorm (fun o => y (ix3 b s o)) (fun o => v65 (ix1 o)) o := by
  unfold normV rNorm
  pointwise

theorem split4 (x : FVec Ideal S8x4096x512 .f32) (b : Fin 8) (s : Fin 4096) (g : Fin 4) (k : Fin 128) :
    shapeCast S8x4096x4x128 x shapeCasts_S8x4096x512_S8x4096x4x128 (ix4 b s g k) = x (ix3 b s (⟨128 * g.val + k.val, by omega⟩ : Fin 512)) := by
  pointwise
  exact congrArg (fun i : Fin 512 => x (ix3 b s i)) (Fin.ext (by dsimp only; omega))

theorem pay2_apply (v53 : FVec Ideal S8x4096x576 .f32) (b : Fin 8) (s : Fin 4096) (a : Fin 64) :
    k0_pay2 (F := Ideal) v53 (ix3 b s a) = v53 (ix3 b s (⟨512 + a.val, by omega⟩ : Fin 576)) := by
  unfold k0_pay2
  pointwise

theorem hf0 (v0 : Vec Ideal S8x4096x2048 .bf16) (x1 : Vec Ideal S576x2048 .fp8e4m3) (x2 : Vec Ideal S5x16 .f32) (x3 : Vec Ideal S512 .f32)
    (b : Fin 8) (s : Fin 4096) (h : Fin 2048) :
    k0_pay11 (F := Ideal) v0 x1 x2 x3 (ix3 b s h) = rDeq (N := 2048) rfl (rowOf v0 b s) h := by
  unfold k0_pay11
  rw [Cert.KernelIdeal.Site.ld_full _ _ (by decide)]
  exact pay6_apply v0 b s h

theorem hw0 (v0 : Vec Ideal S8x4096x2048 .bf16) (x1 : Vec Ideal S576x2048 .fp8e4m3) (x2 : Vec Ideal S5x16 .f32) (x3 : Vec Ideal S512 .f32) :
    k0_pay12 (F := Ideal) v0 x1 x2 x3 = k0_pay7 (F := Ideal) x2 := by
  unfold k0_pay12
  rw [Cert.KernelIdeal.Site.ld_full _ _ (by decide)]

/-- A normalised row, by batch and position. -/
def normOf (v0 : Vec Ideal S8x4096x2048 .bf16) (x1 : Vec Ideal S576x2048 .fp8e4m3) (x2 : Vec Ideal S5x16 .f32) (x3 : Vec Ideal S512 .f32)
    (b : Fin 8) (s : Fin 4096) : Fin 512 → EReal :=
  rNorm (rProd x1 x2 (rowOf v0 b s)) (fun o => x3 (ix1 o))

theorem prod0 (v0 : Vec Ideal S8x4096x2048 .bf16) (x1 : Vec Ideal S576x2048 .fp8e4m3) (x2 : Vec Ideal S5x16 .f32) (x3 : Vec Ideal S512 .f32)
    (b : Fin 8) (s : Fin 4096) (o : Fin 576) :
    k0_pay8 (F := Ideal) (k0_pay11 v0 x1 x2 x3) (k0_pay12 v0 x1 x2 x3) x1 (ix3 b s o) = rProd x1 x2 (rowOf v0 b s) o := by
  rw [hw0]
  exact pay8_apply _ x2 x1 (rowOf v0 b s) b s o (hf0 v0 x1 x2 x3 b s)

theorem norm0 (v0 : Vec Ideal S8x4096x2048 .bf16) (x1 : Vec Ideal S576x2048 .fp8e4m3) (x2 : Vec Ideal S5x16 .f32) (x3 : Vec Ideal S512 .f32)
    (b : Fin 8) (s : Fin 4096) (g : Fin 4) (k : Fin 128) :
    k0_pay9 (F := Ideal) (k0_pay11 v0 x1 x2 x3) (k0_pay12 v0 x1 x2 x3) x1 x3 (ix4 b s g k)
      = normOf v0 x1 x2 x3 b s (⟨128 * g.val + k.val, by omega⟩ : Fin 512) := by
  rw [pay9_eq, split4, normV_apply]
  unfold normOf
  exact congrArg (fun y => rNorm y (fun o => x3 (ix1 o)) _) (funext fun o => prod0 v0 x1 x2 x3 b s o)

theorem scale0 (v0 : Vec Ideal S8x4096x2048 .bf16) (x1 : Vec Ideal S576x2048 .fp8e4m3) (x2 : Vec Ideal S5x16 .f32) (x3 : Vec Ideal S512 .f32)
    (b : Fin 8) (s : Fin 4096) (g : Fin 4) :
    k0_pay13 (F := Ideal) v0 x1 x2 x3 (ix3 b s g) = rScale (ratio (grp (normOf v0 x1 x2 x3 b s) g.val (by omega))) := by
  unfold k0_pay13
  rw [Cert.KernelIdeal.Site.ld_full _ _ (by decide), Cert.KernelIdeal.Site.ld_full _ _ (by decide), pay10_eq,
    scaleV4_apply _ _ _ _ _ (fun k => powV4_apply b s g k), ratV4_apply]
  simp only [norm0]
  rfl

theorem G4_apply (v0 : Vec Ideal S8x4096x2048 .bf16) (x1 : Vec Ideal S576x2048 .fp8e4m3) (x2 : Vec Ideal S5x16 .f32) (x3 : Vec Ideal S512 .f32)
    (b : Fin 8) (s : Fin 4096) (o : Fin 512) :
    Value.G4 (F := Ideal) v0 x1 x2 x3 (ix3 b s o) = rCode (N := 512) rfl (normOf v0 x1 x2 x3 b s) o := by
  unfold Value.G4
  rw [pay1_eq, codeV4_apply, norm0, scale0]
  unfold rCode
  refine congrArg (fun i : Fin 512 => clip (normOf v0 x1 x2 x3 b s i * _)) (Fin.ext ?_)
  dsimp only
  omega

theorem G5_apply (v0 : Vec Ideal S8x4096x2048 .bf16) (x1 : Vec Ideal S576x2048 .fp8e4m3) (x2 : Vec Ideal S5x16 .f32) (x3 : Vec Ideal S512 .f32)
    (b : Fin 8) (s : Fin 4096) (g : Fin 4) :
    Value.G5 (F := Ideal) v0 x1 x2 x3 (ix3 b s g) = rScale (ratio (grp (normOf v0 x1 x2 x3 b s) g.val (by omega))) :=
  scale0 v0 x1 x2 x3 b s g

theorem G6_apply (v0 : Vec Ideal S8x4096x2048 .bf16) (x1 : Vec Ideal S576x2048 .fp8e4m3) (x2 : Vec Ideal S5x16 .f32) (x3 : Vec Ideal S512 .f32)
    (b : Fin 8) (s : Fin 4096) (a : Fin 64) :
    Value.G6 (F := Ideal) v0 x1 x2 x3 (ix3 b s a) = rProd x1 x2 (rowOf v0 b s) ⟨512 + a.val, by omega⟩ := by
  unfold Value.G6
  rw [pay2_apply, prod0]

theorem G7_apply (v0 : Vec Ideal S8x4096x2048 .bf16) (x1 : Vec Ideal S576x2048 .fp8e4m3) (x2 : Vec Ideal S5x16 .f32) (x3 : Vec Ideal S512 .f32)
    (b : Fin 8) (s : Fin 4096) (h : Fin 2048) :
    Value.G7 (F := Ideal) v0 x1 x2 x3 (ix3 b s h) = rCode (N := 2048) rfl (rowOf v0 b s) h := pay5_apply v0 b s h

theorem G8_apply (v0 : Vec Ideal S8x4096x2048 .bf16) (x1 : Vec Ideal S576x2048 .fp8e4m3) (x2 : Vec Ideal S5x16 .f32) (x3 : Vec Ideal S512 .f32)
    (b : Fin 8) (s : Fin 4096) (g : Fin 16) :
    Value.G8 (F := Ideal) v0 x1 x2 x3 (ix3 b s g) = rScale (ratio (grp (rowOf v0 b s) g.val (by omega))) := pay4_apply v0 b s g

end Cert.ReferenceIdeal.Row

end
-- ==== Proof.Bounds.lean ====
/- The ratios of the groups are below the power of two at which the search for a scale ends, where the input and the
   norm's factors are finite. -/
module

public import proofs.«01_k».proof.Proof.RefRow

@[expose] public section

set_option maxRecDepth 16384

noncomputable section

namespace Cert.Bounds

open Idealize.ShloMosaic Cert.Scale
open Cert.KernelIdeal.Site (grp ratio amax normRow)
open Cert.ReferenceIdeal.Row (rNorm)

theorem recip_eq : Ideal.ofBits .f32 0x3B124925#32 = (((8388608 + 1198373) / 2 ^ 32 : ℝ) : EReal) := by
  have h : (BitVec.extractLsb' 23 8 0x3B124925#32).toNat = 118
    ∧ (BitVec.extractLsb' 0 23 0x3B124925#32).toNat = 1198373
    ∧ (BitVec.extractLsb' 31 1 0x3B124925#32 == 1#1) = false := by decide +kernel
  unfold Ideal.ofBits Ideal.ieee
  simp only [h.1, h.2.1, h.2.2]
  norm_num

theorem maxB_eq : Ideal.ofBits .f32 0x7F7F0000#32 = (((8388608 + 8323072) * 2 ^ 104 : ℝ) : EReal) := by
  have h : (BitVec.extractLsb' 23 8 0x7F7F0000#32).toNat = 254
    ∧ (BitVec.extractLsb' 0 23 0x7F7F0000#32).toNat = 8323072
    ∧ (BitVec.extractLsb' 31 1 0x7F7F0000#32 == 1#1) = false := by decide +kernel
  unfold Ideal.ofBits Ideal.ieee
  simp only [h.1, h.2.1, h.2.2]
  norm_num

theorem maxF_eq : Ideal.ofBits .f32 0x7F7FFFFF#32 = (((8388608 + 8388607) * 2 ^ 104 : ℝ) : EReal) := by
  have h : (BitVec.extractLsb' 23 8 0x7F7FFFFF#32).toNat = 254
    ∧ (BitVec.extractLsb' 0 23 0x7F7FFFFF#32).toNat = 8388607
    ∧ (BitVec.extractLsb' 31 1 0x7F7FFFFF#32 == 1#1) = false := by decide +kernel
  unfold Ideal.ofBits Ideal.ieee
  simp only [h.1, h.2.1, h.2.2]
  norm_num

theorem eps_eq : Ideal.ofBits .f32 0x358637BD#32 = (((8388608 + 407485) / 2 ^ 43 : ℝ) : EReal) := by
  have h : (BitVec.extractLsb' 23 8 0x358637BD#32).toNat = 107
    ∧ (BitVec.extractLsb' 0 23 0x358637BD#32).toNat = 407485
    ∧ (BitVec.extractLsb' 31 1 0x358637BD#32 == 1#1) = false := by decide +kernel
  unfold Ideal.ofBits Ideal.ieee
  simp only [h.1, h.2.1, h.2.2]
  norm_num

theorem small_eq : Ideal.ofBits .f32 0x3B000000#32 = ((1 / 512 : ℝ) : EReal) := by
  have e := T_normal 118 (by decide) (by decide)
  refine Eq.trans (show Ideal.ofBits .f32 0x3B000000#32 = Cert.Scale.T 118 from rfl) (e.trans ?_)
  norm_num

theorem big_eq : Ideal.ofBits .f32 0x44000000#32 = ((512 : ℝ) : EReal) := by
  have e := T_normal 136 (by decide) (by decide)
  refine Eq.trans (show Ideal.ofBits .f32 0x44000000#32 = Cert.Scale.T 136 from rfl) (e.trans ?_)
  norm_num

/-- A number's size is at most `2 ^ 133`. -/
def Small (a : EReal) : Prop := max a (-a) ≤ ((2 ^ 133 : ℝ) : EReal)

theorem size_nonneg (a : EReal) : 0 ≤ max a (-a) := by
  rcases le_total 0 a with h | h
  · exact le_max_of_le_left h
  · exact le_max_of_le_right (by simpa using EReal.neg_le_neg_iff.2 h)

theorem ratio_bounds (u : Fin 128 → EReal) (h : ∀ k, Small (u k)) :
    0 ≤ ratio u ∧ ratio u < (((2 : ℝ) ^ (126 : ℤ) : ℝ) : EReal) := by
  have h0 : 0 ≤ amax u := (size_nonneg (u 0)).trans (Finset.le_sup (f := fun k => max (u k) (-u k)) (Finset.mem_univ (0 : Fin 128)))
  have h1 : amax u ≤ ((2 ^ 133 : ℝ) : EReal) := Finset.sup_le fun k _ => h k
  unfold ratio
  rw [recip_eq]
  generalize amax u = a at h0 h1
  induction a with
  | bot => exact absurd h0 (by simp)
  | top => exact absurd (top_le_iff.1 h1) (EReal.coe_ne_top _)
  | coe a =>
    have h0 : (0 : ℝ) ≤ a := by exact_mod_cast h0
    have h1 : a ≤ 2 ^ 133 := by exact_mod_cast h1
    rw [← EReal.coe_mul]
    constructor
    · exact_mod_cast mul_nonneg h0 (by norm_num)
    · refine EReal.coe_lt_coe_iff.2 ?_
      have : a * ((8388608 + 1198373) / 2 ^ 32) ≤ 2 ^ 133 * ((8388608 + 1198373) / 2 ^ 32) :=
        mul_le_mul_of_nonneg_right h1 (by norm_num)
      refine lt_of_le_of_lt this ?_
      norm_num

theorem small_of_input (a : EReal) (h : max a (-a) ≤ Ideal.ofBits .f32 0x7F7F0000#32) : Small a := by
  refine h.trans ?_
  rw [maxB_eq]
  refine EReal.coe_le_coe_iff.2 ?_
  norm_num

theorem mean_eq (s : EReal) : Ideal.div s (Ideal.ofBits .f32 0x44000000#32) = s * Ideal.ofBits .f32 0x3B000000#32 := by
  rw [big_eq, small_eq]
  unfold Ideal.div
  rw [if_neg (by norm_num), ← EReal.coe_inv]
  norm_num

theorem sq_nonneg' (a : EReal) : 0 ≤ a * a := by
  induction a with
  | bot => simp
  | top => simp
  | coe a => exact_mod_cast mul_self_nonneg a

theorem coe_sum' (s : Finset (Fin 512)) (f : Fin 512 → ℝ) : ((∑ k ∈ s, f k : ℝ) : EReal) = ∑ k ∈ s, (f k : EReal) := by
  induction s using Finset.induction_on with
  | empty => rfl
  | insert a s h ih => rw [Finset.sum_insert h, Finset.sum_insert h, EReal.coe_add, ih]

/-- A normalised number, before the norm's factor: its size is at most 32. -/
theorem unit_bound (y : Fin 512 → EReal) (o : Fin 512) :
    ∃ r : ℝ, |r| ≤ 32 ∧ y o * Ideal.rsqrt ((∑ k : Fin 512, y k * y k) * Ideal.ofBits .f32 0x3B000000#32
      + Ideal.ofBits .f32 0x358637BD#32) = (r : EReal) := by
  rw [small_eq, eps_eq]
  by_cases hf : ∀ k, ∃ r : ℝ, y k = (r : EReal)
  · choose r hr using hf
    have hs : (∑ k : Fin 512, y k * y k) = ((∑ k : Fin 512, r k * r k : ℝ) : EReal) := by
      rw [coe_sum']
      exact Finset.sum_congr rfl fun k _ => by rw [hr k, EReal.coe_mul]
    have h1 : r o * r o ≤ ∑ k : Fin 512, r k * r k :=
      Finset.single_le_sum (f := fun k => r k * r k) (fun k _ => mul_self_nonneg (r k)) (Finset.mem_univ o)
    rw [hs, hr o, ← EReal.coe_mul, ← EReal.coe_add]
    generalize (∑ k : Fin 512, r k * r k) = S at h1
    have hS : 0 ≤ S := (mul_self_nonneg _).trans h1
    generalize hq : S * (1 / 512) + (8388608 + 407485) / 2 ^ 43 = q
    have hq0 : 0 < q := by rw [← hq]; positivity
    have hqS : S ≤ 512 * q := by rw [← hq]; ring_nf; norm_num
    have hrs : Ideal.rsqrt (q : EReal) = (((Real.sqrt q)⁻¹ : ℝ) : EReal) := by
      show (if q < 0 then ⊥ else if q = 0 then ⊤ else (((Real.sqrt q)⁻¹ : ℝ) : EReal)) = _
      rw [if_neg (not_lt.2 hq0.le), if_neg hq0.ne']
    refine ⟨r o * (Real.sqrt q)⁻¹, ?_, by rw [hrs, EReal.coe_mul]⟩
    have hsq : 0 < Real.sqrt q := Real.sqrt_pos.2 hq0
    rw [abs_mul, abs_inv, abs_of_pos hsq, ← div_eq_mul_inv, div_le_iff₀ hsq]
    refine abs_le_of_sq_le_sq ?_ (by positivity)
    rw [mul_pow, Real.sq_sqrt hq0.le]
    nlinarith
  · obtain ⟨k, hk⟩ := not_forall.1 hf
    have ht : y k * y k = ⊤ := by
      generalize y k = a at hk
      induction a with
      | bot => simp
      | top => simp
      | coe a => exact absurd ⟨a, rfl⟩ hk
    have hs : (∑ k : Fin 512, y k * y k) = ⊤ := top_le_iff.1 (by
      rw [← ht]
      exact Finset.single_le_sum (f := fun k => y k * y k) (fun k _ => sq_nonneg' (y k)) (Finset.mem_univ k))
    refine ⟨0, by norm_num, ?_⟩
    rw [hs, EReal.top_mul_coe_of_pos (by norm_num), EReal.top_add_coe]
    show y o * 0 = _
    simp

theorem small_norm (y : Fin 576 → EReal) (gm : Fin 512 → EReal) (o : Fin 512)
    (h : max (gm o) (-gm o) ≤ Ideal.ofBits .f32 0x7F7FFFFF#32) : Small (rNorm y gm o) := by
  unfold rNorm
  rw [mean_eq]
  obtain ⟨r, hr, e⟩ := unit_bound (fun k => y ⟨k.val, by omega⟩) o
  refine Eq.mp (congrArg (fun u => Small (u * gm o)) e.symm) ?_
  rw [maxF_eq] at h
  generalize gm o = a at h
  induction a with
  | bot => exact absurd (top_le_iff.1 ((le_max_right (⊥ : EReal) (-⊥)).trans h)) (EReal.coe_ne_top _)
  | top => exact absurd (top_le_iff.1 ((le_max_left (⊤ : EReal) (-⊤)).trans h)) (EReal.coe_ne_top _)
  | coe a =>
    have ha : |a| ≤ (8388608 + 8388607) * 2 ^ 104 := by
      have h := max_le_iff.1 h
      refine abs_le.2 ⟨?_, EReal.coe_le_coe_iff.1 h.1⟩
      have := EReal.coe_le_coe_iff.1 (by simpa only [← EReal.coe_neg] using h.2)
      linarith
    have hm : |r * a| ≤ 2 ^ 133 := by
      rw [abs_mul]
      refine (mul_le_mul hr ha (abs_nonneg _) (by norm_num)).trans ?_
      norm_num
    have hm := abs_le.1 hm
    unfold Small
    rw [← EReal.coe_mul, ← EReal.coe_neg]
    exact max_le (EReal.coe_le_coe_iff.2 hm.2) (EReal.coe_le_coe_iff.2 (by linarith [hm.1]))

theorem norm_eq (y : Fin 576 → EReal) (gm : Fin 512 → EReal) : normRow y gm = rNorm y gm := by
  funext o
  unfold normRow rNorm
  rw [mean_eq]

end Cert.Bounds

end
-- ==== Proof.Bridge.lean ====
/- The kernel's results are the reference's, where the input and the norm's factors are finite. -/
module

public import proofs.«01_k».proof.Proof.KernelRun
public import proofs.«01_k».proof.Proof.Bounds

@[expose] public section

set_option maxRecDepth 16384

noncomputable section

namespace Cert.Bridge

open Idealize.ShloMosaic Idealize.ShloMosaic.TcCoe Cert.KernelIdeal Cert.KernelIdeal.Gen Cert.KernelIdeal.Site Cert.Scale Cert.Bounds
open Cert.ReferenceIdeal.Row (rCode rDeq rProd rNorm rowOf normOf)
open Idealize.SL.Sem

theorem scale_eq {N : ℕ} (f : Fin N → EReal) (hf : ∀ i, Small (f i)) (g : ℕ) (hg : 128 * g + 128 ≤ N) :
    scaleRow f g hg = rScale (ratio (grp f g hg)) :=
  have h := ratio_bounds (grp f g hg) fun k => hf _
  kScale_eq _ h.1 h.2

theorem code_eq {N : ℕ} (hN : N % 128 = 0) (f : Fin N → EReal) (hf : ∀ i, Small (f i)) : codeRow hN f = rCode hN f := by
  funext h
  unfold codeRow rCode invRow
  have b := ratio_bounds (grp f (h.val / 128) (by omega)) fun k => hf _
  rw [kInv_eq _ b.1 b.2]

theorem deq_eq {N : ℕ} (hN : N % 128 = 0) (f : Fin N → EReal) (hf : ∀ i, Small (f i)) : deqRow hN f = rDeq hN f := by
  funext h
  unfold deqRow rDeq
  rw [code_eq hN f hf, scale_eq f hf]

theorem prod_eq (x1 : Vec Ideal S576x2048 .fp8e4m3) (x2 : Vec Ideal S5x16 .f32) (f : Fin 2048 → EReal) (hf : ∀ i, Small (f i)) :
    yrow x1 x2 f = rProd x1 x2 f := by
  funext o
  unfold yrow rProd
  rw [deq_eq rfl f hf]
  exact Finset.sum_congr rfl fun h _ => mul_comm _ _

theorem row_eq (X : Vec Ideal S8x4096x2048 .bf16) (b : Fin 8) (s : Fin 4096) :
    xrow X (4096 * b.val + s.val) (row_lt b s) = rowOf X b s := by
  funext h
  unfold xrow rowOf
  have e1 : (⟨(4096 * b.val + s.val) / 4096, by omega⟩ : Fin 8) = b := Fin.ext (by dsimp only; omega)
  have e2 : (⟨(4096 * b.val + s.val) % 4096, by omega⟩ : Fin 4096) = s := Fin.ext (by dsimp only; omega)
  rw [e1, e2]

theorem cast512 (R : Vec Ideal S32768x512 .fp8e4m3) (b : Fin 8) (s : Fin 4096) (o : Fin 512) :
    shapeCast S8x4096x512 R shapeCasts_S32768x512_S8x4096x512 (ix3 b s o)
      = R (ix2 (⟨4096 * b.val + s.val, row_lt b s⟩ : Fin 32768) o) := by
  pointwise
  exact congrArg (fun r : Fin 32768 => R (ix2 r o)) (Fin.ext (by dsimp only; omega))

theorem cast2048 (R : Vec Ideal S32768x2048 .fp8e4m3) (b : Fin 8) (s : Fin 4096) (o : Fin 2048) :
    shapeCast S8x4096x2048 R shapeCasts_S32768x2048_S8x4096x2048 (ix3 b s o)
      = R (ix2 (⟨4096 * b.val + s.val, row_lt b s⟩ : Fin 32768) o) := by
  pointwise
  exact congrArg (fun r : Fin 32768 => R (ix2 r o)) (Fin.ext (by dsimp only; omega))

theorem turn4 (R : Vec Ideal S8x4x4096 .f32) (b : Fin 8) (s : Fin 4096) (g : Fin 4) :
    transpose S8x4096x4 [0, 2, 1] R transposes_S8x4x4096_S8x4096x4_0_2_1 (ix3 b s g) = R (ix3 b g s) := by
  pointwise

theorem turn64 (R : Vec Ideal S8x64x4096 .bf16) (b : Fin 8) (s : Fin 4096) (g : Fin 64) :
    transpose S8x4096x64 [0, 2, 1] R transposes_S8x64x4096_S8x4096x64_0_2_1 (ix3 b s g) = R (ix3 b g s) := by
  pointwise

theorem turn16 (R : Vec Ideal S8x16x4096 .f32) (b : Fin 8) (s : Fin 4096) (g : Fin 16) :
    transpose S8x4096x16 [0, 2, 1] R transposes_S8x16x4096_S8x4096x16_0_2_1 (ix3 b s g) = R (ix3 b g s) := by
  pointwise

/-- A number's size is at most the greatest of f32. -/
def Finite (a : EReal) : Prop := max a (-a) ≤ Ideal.ofBits .f32 0x7F7FFFFF#32

variable (m : (ℓ : Loc nD τ sig) → Buf (Elt Ideal) ℓ) (c : Dev nD)
variable (hx : ∀ i, Small ((m ((c : Thread nD τ).loc main_arg0) : Vec Ideal S8x4096x2048 .bf16) i))
variable (hg : ∀ o, Finite ((m ((c : Thread nD τ).loc main_arg3) : Vec Ideal S512 .f32) o))

include hx in
theorem nrow_eq (b : Fin 8) (s : Fin 4096) : nrow m c (4096 * b.val + s.val) (row_lt b s)
    = normOf (m ((c : Thread nD τ).loc main_arg0)) (m ((c : Thread nD τ).loc main_arg1)) (m ((c : Thread nD τ).loc main_arg2))
      (m ((c : Thread nD τ).loc main_arg3)) b s := by
  unfold nrow normOf
  rw [row_eq, prod_eq _ _ (rowOf (m ((c : Thread nD τ).loc main_arg0)) b s) fun i => hx _, norm_eq]
  rfl

include hg in
theorem norm_small (b : Fin 8) (s : Fin 4096) (o : Fin 512) :
    Small (normOf (m ((c : Thread nD τ).loc main_arg0)) (m ((c : Thread nD τ).loc main_arg1)) (m ((c : Thread nD τ).loc main_arg2))
      (m ((c : Thread nD τ).loc main_arg3)) b s o) := by
  unfold normOf
  exact small_norm _ _ o (hg _)

include hx hg in
theorem same3 : K3 m c = Cert.ReferenceIdeal.Value.G4 (F := Ideal) (m ((c : Thread nD τ).loc main_arg0)) (m ((c : Thread nD τ).loc main_arg1))
    (m ((c : Thread nD τ).loc main_arg2)) (m ((c : Thread nD τ).loc main_arg3)) := by
  funext j
  obtain ⟨b, s, o, rfl⟩ : ∃ (b : Fin 8) (s : Fin 4096) (o : Fin 512), j = ix3 b s o := ⟨j 0, j 1, j 2, eq_ix3 j⟩
  unfold K3
  rw [cast512, R4_at, Cert.ReferenceIdeal.Row.G4_apply, nrow_eq m c hx b s, code_eq _ _ (norm_small m c hg b s)]

include hx hg in
theorem same4 : K4 m c = Cert.ReferenceIdeal.Value.G5 (F := Ideal) (m ((c : Thread nD τ).loc main_arg0)) (m ((c : Thread nD τ).loc main_arg1))
    (m ((c : Thread nD τ).loc main_arg2)) (m ((c : Thread nD τ).loc main_arg3)) := by
  funext j
  obtain ⟨b, s, o, rfl⟩ : ∃ (b : Fin 8) (s : Fin 4096) (o : Fin 4), j = ix3 b s o := ⟨j 0, j 1, j 2, eq_ix3 j⟩
  unfold K4
  rw [turn4, R5_at, Cert.ReferenceIdeal.Row.G5_apply, nrow_eq m c hx b s, scale_eq _ (norm_small m c hg b s)]

include hx in
theorem same5 : K5 m c = Cert.ReferenceIdeal.Value.G6 (F := Ideal) (m ((c : Thread nD τ).loc main_arg0)) (m ((c : Thread nD τ).loc main_arg1))
    (m ((c : Thread nD τ).loc main_arg2)) (m ((c : Thread nD τ).loc main_arg3)) := by
  funext j
  obtain ⟨b, s, o, rfl⟩ : ∃ (b : Fin 8) (s : Fin 4096) (o : Fin 64), j = ix3 b s o := ⟨j 0, j 1, j 2, eq_ix3 j⟩
  unfold K5
  rw [turn64, R6_at, Cert.ReferenceIdeal.Row.G6_apply, row_eq,
    prod_eq _ _ (rowOf (m ((c : Thread nD τ).loc main_arg0)) b s) fun i => hx _]

include hx in
theorem same6 : K6 m c = Cert.ReferenceIdeal.Value.G7 (F := Ideal) (m ((c : Thread nD τ).loc main_arg0)) (m ((c : Thread nD τ).loc main_arg1))
    (m ((c : Thread nD τ).loc main_arg2)) (m ((c : Thread nD τ).loc main_arg3)) := by
  funext j
  obtain ⟨b, s, o, rfl⟩ : ∃ (b : Fin 8) (s : Fin 4096) (o : Fin 2048), j = ix3 b s o := ⟨j 0, j 1, j 2, eq_ix3 j⟩
  unfold K6
  rw [cast2048, R7_at, Cert.ReferenceIdeal.Row.G7_apply, row_eq,
    code_eq _ (rowOf (m ((c : Thread nD τ).loc main_arg0)) b s) fun i => hx _]

include hx in
theorem same7 : K7 m c = Cert.ReferenceIdeal.Value.G8 (F := Ideal) (m ((c : Thread nD τ).loc main_arg0)) (m ((c : Thread nD τ).loc main_arg1))
    (m ((c : Thread nD τ).loc main_arg2)) (m ((c : Thread nD τ).loc main_arg3)) := by
  funext j
  obtain ⟨b, s, o, rfl⟩ : ∃ (b : Fin 8) (s : Fin 4096) (o : Fin 16), j = ix3 b s o := ⟨j 0, j 1, j 2, eq_ix3 j⟩
  unfold K7
  rw [turn16, R8_at, Cert.ReferenceIdeal.Row.G8_apply, row_eq,
    scale_eq (rowOf (m ((c : Thread nD τ).loc main_arg0)) b s) fun i => hx _]

end Cert.Bridge

end
-- ==== Proof.lean ====
/- The claims, proved. -/
module

public import proofs.«01_k».proof.Defs
public import proofs.«01_k».proof.Proof.Gen.Kernel.Frame
public import proofs.«01_k».proof.Proof.Gen.KernelIdeal.Frame
public import proofs.«01_k».proof.Proof.Gen.ReferenceIdeal.Value
public import proofs.«01_k».proof.Proof.Gen.Pre_inputs_finite
public import proofs.«01_k».proof.Proof.Pre
public import proofs.«01_k».proof.Proof.Bridge

@[expose] public section

set_option maxRecDepth 16384

noncomputable section

namespace Cert.Proof

open Idealize.ShloMosaic Idealize.ShloMosaic.TcCoe Idealize.SL.Sem

/-- The kernel and the reference end with the same five results. -/
theorem algebraic : Cert.algebraic_KernelIdeal_ReferenceIdeal_pre_inputs_finite := by
  intro m g m' g' hp ha
  have hx : ∀ c : Dev Cert.KernelIdeal.nD, (∀ i, Cert.Bounds.Small
        ((m ((c.tc : Thread Cert.KernelIdeal.nD Cert.KernelIdeal.τ).loc Cert.KernelIdeal.main_arg0) :
          Vec Ideal Cert.KernelIdeal.S8x4096x2048 .bf16) i))
      ∧ ∀ o, Cert.Bridge.Finite
        ((m ((c.tc : Thread Cert.KernelIdeal.nD Cert.KernelIdeal.τ).loc Cert.KernelIdeal.main_arg3) :
          Vec Ideal Cert.KernelIdeal.S512 .f32) o) := fun c =>
    have h := Cert.Pre.finite _ _ _ _ (fun i => i.elim0) (congrFun (hp c) fun i => i.elim0)
    ⟨fun i => Cert.Bounds.small_of_input _ (h.1 i), h.2⟩
  refine ⟨Cert.KernelIdeal.Site.K3 m, Cert.KernelIdeal.Site.K4 m, Cert.KernelIdeal.Site.K5 m, Cert.KernelIdeal.Site.K6 m,
    Cert.KernelIdeal.Site.K7 m, Cert.KernelIdeal.Site.run m g, ?_⟩
  refine (θ_run Cert.ReferenceIdeal.defs _ _).mono (fun r h c => ?_) (Cert.ReferenceIdeal.Value.run m' g')
  obtain ⟨h0, h1, h2, h3, h4, k0, k1, k2, k3⟩ := h c
  obtain ⟨a0, a1, a2, a3⟩ := ha c
  obtain ⟨bx, bg⟩ := hx c
  rw [a0, a1, a2, a3] at h0 h1 h2 h3 h4
  exact ⟨h0.trans (Cert.Bridge.same3 m c bx bg).symm, h1.trans (Cert.Bridge.same4 m c bx bg).symm,
    h2.trans (Cert.Bridge.same5 m c bx).symm, h3.trans (Cert.Bridge.same6 m c bx).symm,
    h4.trans (Cert.Bridge.same7 m c bx).symm, k0, k1, k2, k3⟩

theorem claim : Cert.Claim :=
  ⟨Cert.Kernel.Gen.facts, Cert.KernelIdeal.Gen.facts, Cert.ReferenceIdeal.Gen.facts, Cert.Pre_inputs_finite.Gen.facts,
    fun m ρ _ => Cert.Kernel.Gen.frame m ρ,
    fun m ρ _ => Cert.KernelIdeal.Gen.frame m ρ,
    fun m ρ _ => Cert.KernelIdeal.Gen.frame m ρ,
    fun m ρ _ => Cert.ReferenceIdeal.Gen.frame m ρ,
    fun m ρ _ => Cert.ReferenceIdeal.Gen.frame m ρ,
    trivial,
    algebraic⟩

end Cert.Proof

end
